-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_groups_in_range [hPre_groups_in_range : Cert.Pre_groups_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_in_range [hPre_groups_in_range : Cert.Pre_groups_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_groups_in_range [hKernelIdeal : Cert.KernelIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_groups_in_range [hReferenceIdeal : Cert.ReferenceIdeal.Facts] [hPre_groups_in_range : Cert.Pre_groups_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_groups_in_range [hKernelIdeal : Cert.KernelIdeal.Facts] [hReferenceIdeal : Cert.ReferenceIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_groups_in_range : Cert.Pre_groups_in_range.Facts),
    quiescent_Kernel (hKernel := hKernel)
    ∧ quiescent_KernelIdeal (hKernelIdeal := hKernelIdeal)
    ∧ quiescent_KernelIdeal_pre_groups_in_range (hKernelIdeal := hKernelIdeal) (hPre_groups_in_range := hPre_groups_in_range)
    ∧ quiescent_ReferenceIdeal (hReferenceIdeal := hReferenceIdeal)
    ∧ quiescent_ReferenceIdeal_pre_groups_in_range (hReferenceIdeal := hReferenceIdeal) (hPre_groups_in_range := hPre_groups_in_range)
    ∧ preserves_Kernel_KernelIdeal
    ∧ algebraic_KernelIdeal_ReferenceIdeal_pre_groups_in_range (hKernelIdeal := hKernelIdeal) (hReferenceIdeal := hReferenceIdeal) (hPre_groups_in_range := hPre_groups_in_range)
-- ==== Pre_groups_in_range.lean ====
abbrev S2x4096x8192 : Shape := ⟨3, ![2, 4096, 8192]⟩
abbrev S16x256x8192 : Shape := ⟨3, ![16, 256, 8192]⟩
abbrev S16x2x64 : Shape := ⟨3, ![16, 2, 64]⟩
abbrev S2x4096x64x128 : Shape := ⟨4, ![2, 4096, 64, 128]⟩
abbrev S_ : Shape := ⟨0, ![]⟩
abbrev S2x4096x64 : Shape := ⟨3, ![2, 4096, 64]⟩

class Facts : Prop where
  bitsLt_bf16_f32 : FTy.bits .bf16 < FTy.bits .f32
  shapeCasts_S2x4096x8192_S2x4096x64x128 : S2x4096x8192.ShapeCasts S2x4096x64x128
  reducesTo_S2x4096x64x128_S2x4096x64_d3 : S2x4096x64x128.ReducesTo [3] S2x4096x64
  h_S_ : 0 < S_.numel
  bcast_S_S2x4096x64 : S_.BroadcastsInDim S2x4096x64 (![] : Fin 0 → Fin S2x4096x64.rank)

variable [Facts]

def fn {F : FTy → Type} [FloatOps F] (main_arg0 : FVec F S2x4096x8192 .bf16) (main_arg1 : FVec F S16x256x8192 .fp8e4m3) (main_arg2 : FVec F S16x2x64 .f32) : IVec S2x4096x64 1 :=
  let main_v0 : FVec F S2x4096x8192 .f32 := (extf .f32 · bitsLt_bf16_f32) main_arg0
  let main_v1 : FVec F S2x4096x64x128 .f32 := shapeCast S2x4096x64x128 main_v0 shapeCasts_S2x4096x8192_S2x4096x64x128
  let main_v2 : FVec F S2x4096x64x128 .f32 := Host.absf main_v1
  let main_cst : FVec F S_ .f32 := constant S_ .f32 0xFF800000#32
  let main_v3 : FVec F S2x4096x64 .f32 := (fun x v => Host.reduce FloatOps.maximumf x v reducesTo_S2x4096x64x128_S2x4096x64_d3 h_S_) main_v2 main_cst
  let main_cst_0 : FVec F S_ .f32 := constant S_ .f32 0x3B124925#32
  let main_v4 : FVec F S2x4096x64 .f32 := broadcastInDim S2x4096x64 ![] bcast_S_S2x4096x64 main_cst_0
  let main_v5 : FVec F S2x4096x64 .f32 := mulf main_v3 main_v4
  let main_cst_1 : FVec F S_ .f32 := constant S_ .f32 0x00000000#32
  let main_v6 : FVec F S2x4096x64 .f32 := broadcastInDim S2x4096x64 ![] bcast_S_S2x4096x64 main_cst_1
  let main_v7 : IVec S2x4096x64 1 := cmpf .oeq main_v3 main_v6
  let main_cst_2 : FVec F S_ .f32 := constant S_ .f32 0x00400000#32
  let main_v8 : FVec F S2x4096x64 .f32 := broadcastInDim S2x4096x64 ![] bcast_S_S2x4096x64 main_cst_2
  let main_v9 : IVec S2x4096x64 1 := cmpf .oge main_v5 main_v8
  let main_cst_3 : FVec F S_ .f32 := constant S_ .f32 0x7E800000#32
  let main_v10 : FVec F S2x4096x64 .f32 := broadcastInDim S2x4096x64 ![] bcast_S_S2x4096x64 main_cst_3
  let main_v11 : IVec S2x4096x64 1 := cmpf .olt main_v5 main_v10
  let main_v12 : IVec S2x4096x64 1 := andi main_v9 main_v11
  let main_v13 : IVec S2x4096x64 1 := ori main_v7 main_v12
  main_v13
-- ==== Kernel.lean ====
abbrev S2x4096x8192 : Shape := ⟨3, ![2, 4096, 8192]⟩
abbrev S16x256x8192 : Shape := ⟨3, ![16, 256, 8192]⟩
abbrev S16x2x64 : Shape := ⟨3, ![16, 2, 64]⟩
abbrev S8x4x64 : Shape := ⟨3, ![8, 4, 64]⟩
abbrev S8x4x64x128 : Shape := ⟨4, ![8, 4, 64, 128]⟩
abbrev S8x4x8192 : Shape := ⟨3, ![8, 4, 8192]⟩
abbrev S8192x8192 : Shape := ⟨2, ![8192, 8192]⟩
abbrev S4096x8192 : Shape := ⟨2, ![4096, 8192]⟩
abbrev S8192x4096 : Shape := ⟨2, ![8192, 4096]⟩
abbrev S8192x64 : Shape := ⟨2, ![8192, 64]⟩
abbrev S512x8192 : Shape := ⟨2, ![512, 8192]⟩
abbrev S1x4x8192 : Shape := ⟨3, ![1, 4, 8192]⟩
abbrev S512x512 : Shape := ⟨2, ![512, 512]⟩
abbrev S512x64 : Shape := ⟨2, ![512, 64]⟩
abbrev S32x64 : Shape := ⟨2, ![32, 64]⟩
abbrev S32x128 : Shape := ⟨2, ![32, 128]⟩
abbrev S32 : Shape := ⟨1, ![32]⟩
abbrev S32x1 : Shape := ⟨2, ![32, 1]⟩
abbrev S128x8192 : Shape := ⟨2, ![128, 8192]⟩
abbrev S1x1x8192 : Shape := ⟨3, ![1, 1, 8192]⟩
abbrev S1x8192 : Shape := ⟨2, ![1, 8192]⟩
abbrev S2x4096x16x256 : Shape := ⟨4, ![2, 4096, 16, 256]⟩
abbrev S2x4096x64 : Shape := ⟨3, ![2, 4096, 64]⟩

abbrev nBuf : Space → Nat
  | .hbm => 15
  | .vmem => 14
  | .smem => 0
  | _ => 0

abbrev bufTy : (tb : Table) → Fin (tcTables nBuf tb) → BufTy
  | .hbm, ⟨0, _⟩ => ⟨S2x4096x8192, .bf16⟩
  | .hbm, ⟨1, _⟩ => ⟨S16x256x8192, .fp8e4m3⟩
  | .hbm, ⟨2, _⟩ => ⟨S16x2x64, .f32⟩
  | .hbm, ⟨3, _⟩ => ⟨S16x2x64, .bf16⟩
  | .hbm, ⟨4, _⟩ => ⟨S8x4x64, .bf16⟩
  | .hbm, ⟨5, _⟩ => ⟨S8x4x64x128, .bf16⟩
  | .hbm, ⟨6, _⟩ => ⟨S8x4x8192, .bf16⟩
  | .hbm, ⟨7, _⟩ => ⟨S8192x8192, .bf16⟩
  | .hbm, ⟨8, _⟩ => ⟨S4096x8192, .fp8e4m3⟩
  | .hbm, ⟨9, _⟩ => ⟨S8192x4096, .bf16⟩
  | .hbm, ⟨10, _⟩ => ⟨S8192x8192, .fp8e4m3⟩
  | .hbm, ⟨11, _⟩ => ⟨S8192x64, .f32⟩
  | .hbm, ⟨12, _⟩ => ⟨S2x4096x16x256, .bf16⟩
  | .hbm, ⟨13, _⟩ => ⟨S2x4096x8192, .fp8e4m3⟩
  | .hbm, ⟨14, _⟩ => ⟨S2x4096x64, .f32⟩
  | .local _ .vmem, ⟨0, _⟩ => ⟨S512x8192, .bf16⟩
  | .local _ .vmem, ⟨1, _⟩ => ⟨S512x8192, .bf16⟩
  | .local _ .vmem, ⟨2, _⟩ => ⟨S512x8192, .fp8e4m3⟩
  | .local _ .vmem, ⟨3, _⟩ => ⟨S512x8192, .fp8e4m3⟩
  | .local _ .vmem, ⟨4, _⟩ => ⟨S1x4x8192, .bf16⟩
  | .local _ .vmem, ⟨5, _⟩ => ⟨S1x4x8192, .bf16⟩
  | .local _ .vmem, ⟨6, _⟩ => ⟨S512x512, .bf16⟩
  | .local _ .vmem, ⟨7, _⟩ => ⟨S512x512, .bf16⟩
  | .local _ .vmem, ⟨8, _⟩ => ⟨S512x8192, .fp8e4m3⟩
  | .local _ .vmem, ⟨9, _⟩ => ⟨S512x8192, .fp8e4m3⟩
  | .local _ .vmem, ⟨10, _⟩ => ⟨S512x64, .f32⟩
  | .local _ .vmem, ⟨11, _⟩ => ⟨S512x64, .f32⟩
  | .local _ .vmem, ⟨12, _⟩ => ⟨S512x8192, .bf16⟩
  | .local _ .vmem, ⟨13, _⟩ => ⟨S512x8192, .bf16⟩
  | _, _ => ⟨S2x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_28 : BitVec 32 := 0#32
  let c16_i32 : BitVec 32 := 16#32
  let v48 : BitVec 32 := Scalar.addi c0_i32_28 c16_i32
  let c1_i32 : BitVec 32 := 1#32
  ⟨c0_i32_28, v48, c1_i32⟩
def k0_mult1 (k0_t1 : Fin k0_t1_loop.trips) : BitVec 32 :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  v51
def k0_off1 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v55 : Index := Scalar.indexCast v52
  let c0_33 : Index := 0#32
  ![v55.toNat, 0]
def k0_off2 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v67 : Index := Scalar.indexCast v52
  let c128_36 : Index := 128#32
  ![v67.toNat, 128]
def k0_off3 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v79 : Index := Scalar.indexCast v52
  let c256_39 : Index := 256#32
  ![v79.toNat, 256]
def k0_off4 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v91 : Index := Scalar.indexCast v52
  let c384_41 : Index := 384#32
  ![v91.toNat, 384]
def k0_off5 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v103 : Index := Scalar.indexCast v52
  let c512 : Index := 512#32
  ![v103.toNat, 512]
def k0_off6 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v115 : Index := Scalar.indexCast v52
  let c640 : Index := 640#32
  ![v115.toNat, 640]
def k0_off7 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v127 : Index := Scalar.indexCast v52
  let c768 : Index := 768#32
  ![v127.toNat, 768]
def k0_off8 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v139 : Index := Scalar.indexCast v52
  let c896 : Index := 896#32
  ![v139.toNat, 896]
def k0_off9 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v151 : Index := Scalar.indexCast v52
  let c1024 : Index := 1024#32
  ![v151.toNat, 1024]
def k0_off10 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v163 : Index := Scalar.indexCast v52
  let c1152 : Index := 1152#32
  ![v163.toNat, 1152]
def k0_off11 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v175 : Index := Scalar.indexCast v52
  let c1280 : Index := 1280#32
  ![v175.toNat, 1280]
def k0_off12 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v187 : Index := Scalar.indexCast v52
  let c1408 : Index := 1408#32
  ![v187.toNat, 1408]
def k0_off13 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v199 : Index := Scalar.indexCast v52
  let c1536 : Index := 1536#32
  ![v199.toNat, 1536]
def k0_off14 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v211 : Index := Scalar.indexCast v52
  let c1664 : Index := 1664#32
  ![v211.toNat, 1664]
def k0_off15 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v223 : Index := Scalar.indexCast v52
  let c1792 : Index := 1792#32
  ![v223.toNat, 1792]
def k0_off16 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v235 : Index := Scalar.indexCast v52
  let c1920 : Index := 1920#32
  ![v235.toNat, 1920]
def k0_off17 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v247 : Index := Scalar.indexCast v52
  let c2048 : Index := 2048#32
  ![v247.toNat, 2048]
def k0_off18 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v259 : Index := Scalar.indexCast v52
  let c2176 : Index := 2176#32
  ![v259.toNat, 2176]
def k0_off19 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v271 : Index := Scalar.indexCast v52
  let c2304 : Index := 2304#32
  ![v271.toNat, 2304]
def k0_off20 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v283 : Index := Scalar.indexCast v52
  let c2432 : Index := 2432#32
  ![v283.toNat, 2432]
def k0_off21 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v295 : Index := Scalar.indexCast v52
  let c2560 : Index := 2560#32
  ![v295.toNat, 2560]
def k0_off22 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v307 : Index := Scalar.indexCast v52
  let c2688 : Index := 2688#32
  ![v307.toNat, 2688]
def k0_off23 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v319 : Index := Scalar.indexCast v52
  let c2816 : Index := 2816#32
  ![v319.toNat, 2816]
def k0_off24 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v331 : Index := Scalar.indexCast v52
  let c2944 : Index := 2944#32
  ![v331.toNat, 2944]
def k0_off25 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v343 : Index := Scalar.indexCast v52
  let c3072 : Index := 3072#32
  ![v343.toNat, 3072]
def k0_off26 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v355 : Index := Scalar.indexCast v52
  let c3200 : Index := 3200#32
  ![v355.toNat, 3200]
def k0_off27 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v367 : Index := Scalar.indexCast v52
  let c3328 : Index := 3328#32
  ![v367.toNat, 3328]
def k0_off28 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v379 : Index := Scalar.indexCast v52
  let c3456 : Index := 3456#32
  ![v379.toNat, 3456]
def k0_off29 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v391 : Index := Scalar.indexCast v52
  let c3584 : Index := 3584#32
  ![v391.toNat, 3584]
def k0_off30 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v403 : Index := Scalar.indexCast v52
  let c3712 : Index := 3712#32
  ![v403.toNat, 3712]
def k0_off31 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v415 : Index := Scalar.indexCast v52
  let c3840 : Index := 3840#32
  ![v415.toNat, 3840]
def k0_off32 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v427 : Index := Scalar.indexCast v52
  let c3968 : Index := 3968#32
  ![v427.toNat, 3968]
def k0_off33 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v439 : Index := Scalar.indexCast v52
  let c4096 : Index := 4096#32
  ![v439.toNat, 4096]
def k0_off34 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v451 : Index := Scalar.indexCast v52
  let c4224 : Index := 4224#32
  ![v451.toNat, 4224]
def k0_off35 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v463 : Index := Scalar.indexCast v52
  let c4352 : Index := 4352#32
  ![v463.toNat, 4352]
def k0_off36 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v475 : Index := Scalar.indexCast v52
  let c4480 : Index := 4480#32
  ![v475.toNat, 4480]
def k0_off37 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v487 : Index := Scalar.indexCast v52
  let c4608 : Index := 4608#32
  ![v487.toNat, 4608]
def k0_off38 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v499 : Index := Scalar.indexCast v52
  let c4736 : Index := 4736#32
  ![v499.toNat, 4736]
def k0_off39 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v511 : Index := Scalar.indexCast v52
  let c4864 : Index := 4864#32
  ![v511.toNat, 4864]
def k0_off40 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v523 : Index := Scalar.indexCast v52
  let c4992 : Index := 4992#32
  ![v523.toNat, 4992]
def k0_off41 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v535 : Index := Scalar.indexCast v52
  let c5120 : Index := 5120#32
  ![v535.toNat, 5120]
def k0_off42 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v547 : Index := Scalar.indexCast v52
  let c5248 : Index := 5248#32
  ![v547.toNat, 5248]
def k0_off43 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v559 : Index := Scalar.indexCast v52
  let c5376 : Index := 5376#32
  ![v559.toNat, 5376]
def k0_off44 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v571 : Index := Scalar.indexCast v52
  let c5504 : Index := 5504#32
  ![v571.toNat, 5504]
def k0_off45 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v583 : Index := Scalar.indexCast v52
  let c5632 : Index := 5632#32
  ![v583.toNat, 5632]
def k0_off46 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v595 : Index := Scalar.indexCast v52
  let c5760 : Index := 5760#32
  ![v595.toNat, 5760]
def k0_off47 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v607 : Index := Scalar.indexCast v52
  let c5888 : Index := 5888#32
  ![v607.toNat, 5888]
def k0_off48 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v619 : Index := Scalar.indexCast v52
  let c6016 : Index := 6016#32
  ![v619.toNat, 6016]
def k0_off49 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v631 : Index := Scalar.indexCast v52
  let c6144 : Index := 6144#32
  ![v631.toNat, 6144]
def k0_off50 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v643 : Index := Scalar.indexCast v52
  let c6272 : Index := 6272#32
  ![v643.toNat, 6272]
def k0_off51 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v655 : Index := Scalar.indexCast v52
  let c6400 : Index := 6400#32
  ![v655.toNat, 6400]
def k0_off52 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v667 : Index := Scalar.indexCast v52
  let c6528 : Index := 6528#32
  ![v667.toNat, 6528]
def k0_off53 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v679 : Index := Scalar.indexCast v52
  let c6656 : Index := 6656#32
  ![v679.toNat, 6656]
def k0_off54 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v691 : Index := Scalar.indexCast v52
  let c6784 : Index := 6784#32
  ![v691.toNat, 6784]
def k0_off55 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v703 : Index := Scalar.indexCast v52
  let c6912 : Index := 6912#32
  ![v703.toNat, 6912]
def k0_off56 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v715 : Index := Scalar.indexCast v52
  let c7040 : Index := 7040#32
  ![v715.toNat, 7040]
def k0_off57 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v727 : Index := Scalar.indexCast v52
  let c7168 : Index := 7168#32
  ![v727.toNat, 7168]
def k0_off58 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v739 : Index := Scalar.indexCast v52
  let c7296 : Index := 7296#32
  ![v739.toNat, 7296]
def k0_off59 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v751 : Index := Scalar.indexCast v52
  let c7424 : Index := 7424#32
  ![v751.toNat, 7424]
def k0_off60 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v763 : Index := Scalar.indexCast v52
  let c7552 : Index := 7552#32
  ![v763.toNat, 7552]
def k0_off61 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v775 : Index := Scalar.indexCast v52
  let c7680 : Index := 7680#32
  ![v775.toNat, 7680]
def k0_off62 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v787 : Index := Scalar.indexCast v52
  let c7808 : Index := 7808#32
  ![v787.toNat, 7808]
def k0_off63 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v799 : Index := Scalar.indexCast v52
  let c7936 : Index := 7936#32
  ![v799.toNat, 7936]
def k0_off64 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v811 : Index := Scalar.indexCast v52
  let c8064 : Index := 8064#32
  ![v811.toNat, 8064]
def k0_off65 (k0_t1 : Fin k0_t1_loop.trips) : Fin 2 → Nat :=
  let c0_i32_31 : BitVec 32 := 0#32
  let c0_i32_28 : BitVec 32 := 0#32
  let c1_i32 : BitVec 32 := 1#32
  let arg10 : BitVec 32 := Scf.iv c0_i32_28 c1_i32 k0_t1
  let c1_i32_30 : BitVec 32 := 1#32
  let v49 : BitVec 32 := Scalar.muli arg10 c1_i32_30
  let v50 : BitVec 32 := Scalar.addi c0_i32_31 v49
  let c32_i32 : BitVec 32 := 32#32
  let v51 : BitVec 32 := Scalar.muli v50 c32_i32
  let v52 : BitVec 32 := v51
  let v878 : Index := Scalar.indexCast v52
  let c0_111 : Index := 0#32
  ![v878.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S2x4096x8192 : Shape := ⟨3, ![2, 4096, 8192]⟩
abbrev S16x256x8192 : Shape := ⟨3, ![16, 256, 8192]⟩
abbrev S16x2x64 : Shape := ⟨3, ![16, 2, 64]⟩
abbrev S2x4096x16x256 : Shape := ⟨4, ![2, 4096, 16, 256]⟩
abbrev S2x4096x64 : Shape := ⟨3, ![2, 4096, 64]⟩
abbrev S2x4096x64x128 : Shape := ⟨4, ![2, 4096, 64, 128]⟩
abbrev S2x4096x64x1 : Shape := ⟨4, ![2, 4096, 64, 1]⟩
abbrev S8192x8192 : Shape := ⟨2, ![8192, 8192]⟩
abbrev S16x2x128x64x128 : Shape := ⟨5, ![16, 2, 128, 64, 128]⟩
abbrev S16x2x1x64x1 : Shape := ⟨5, ![16, 2, 1, 64, 1]⟩
abbrev S4096x8192 : Shape := ⟨2, ![4096, 8192]⟩
abbrev S8192x4096 : Shape := ⟨2, ![8192, 4096]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x8192, .bf16⟩
  | .hbm, ⟨1, _⟩ => ⟨S16x256x8192, .fp8e4m3⟩
  | .hbm, ⟨2, _⟩ => ⟨S16x2x64, .f32⟩
  | .hbm, ⟨3, _⟩ => ⟨S2x4096x16x256, .bf16⟩
  | .hbm, ⟨4, _⟩ => ⟨S2x4096x8192, .fp8e4m3⟩
  | .hbm, ⟨5, _⟩ => ⟨S2x4096x64, .f32⟩
  | .local _ .vmem, ⟨0, _⟩ => ⟨S2x4096x8192, .bf16⟩
  | .local _ .vmem, ⟨1, _⟩ => ⟨S16x256x8192, .fp8e4m3⟩
  | .local _ .vmem, ⟨2, _⟩ => ⟨S16x2x64, .f32⟩
  | .local _ .vmem, ⟨3, _⟩ => ⟨S2x4096x16x256, .bf16⟩
  | .local _ .vmem, ⟨4, _⟩ => ⟨S2x4096x8192, .fp8e4m3⟩
  | .local _ .vmem, ⟨5, _⟩ => ⟨S2x4096x64, .f32⟩
  | _, _ => ⟨S2x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x4096x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x16x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.WordShared.lean ====
/- What the two runs of the kernel's body share, for the frame claim of the kernel as it stands, at any values: nothing is said of the
   three outputs' contents. The branch condition in closed form, the staging and scratch buffers, and the frame claim's post read off
   a run. -/
module

public import proofs.«01_k».proof.Proof.Gen.Kernel.Frame
public import proofs.«01_k».proof.Proof.Gen.Kernel.Skeleton
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Word

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The frame claim from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x64 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x8192 .bf16 := Memref.whole cc0_scratch0
abbrev scM0_1 : Memref sig .tc .vmem S512x8192 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Word

end
-- ==== Proof.WordRunA.lean ====
/- The run of the kernel's body at the first point of a row of tiles (case A), at any values. -/
module

public import proofs.«01_k».proof.Proof.WordShared

@[expose] public section

-- membership in a rectangle of production extents (`View.cover_of_tiled`): the elaborator's structural look
-- recurses once per coordinate of the long axes
set_option maxRecDepth 16384

noncomputable section

namespace Cert.Kernel.Word

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 8, … 120: 16 of 128): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x4x8192 .bf16) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (arg9 : Memref sig .tc .vmem S512x8192 .bf16) (harg9 : arg9.IsWhole) (hc0 : cond0_0 i)
    (x0 : Vec F S512x8192 .bf16) (x1 : Vec F S512x8192 .fp8e4m3) (x2 : Vec F S1x4x8192 .bf16) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_mla_up_proj i arg2 harg2 arg3 harg3 arg4 harg4 arg5 harg5 arg6 harg6 arg7 harg7 arg8 harg8 arg9 harg9) K := by
    intro E K
    simp only [cc0_mla_up_proj_eq_skeleton]; unfold cc0_mla_up_proj_skel
    simp only [k0_part51_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Word

end
-- ==== Proof.WordRunB.lean ====
/- The run of the kernel's body at the other points of a row of tiles (case B), at any values. -/
module

public import proofs.«01_k».proof.Proof.WordRunA

@[expose] public section

-- membership in a rectangle of production extents (`View.cover_of_tiled`): the elaborator's structural look
-- recurses once per coordinate of the long axes
set_option maxRecDepth 16384

noncomputable section

namespace Cert.Kernel.Word

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 127: 112 of 128): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x4x8192 .bf16) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (arg9 : Memref sig .tc .vmem S512x8192 .bf16) (harg9 : arg9.IsWhole) (hc0 : ¬cond0_0 i)
    (x0 : Vec F S512x8192 .bf16) (x1 : Vec F S512x8192 .fp8e4m3) (x2 : Vec F S1x4x8192 .bf16) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_mla_up_proj i arg2 harg2 arg3 harg3 arg4 harg4 arg5 harg5 arg6 harg6 arg7 harg7 arg8 harg8 arg9 harg9) K := by
    intro E K
    simp only [cc0_mla_up_proj_eq_skeleton]; unfold cc0_mla_up_proj_skel
    simp only [k0_part51_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Word

end
-- ==== Proof.WordFrame.lean ====
/- The frame claim of the kernel as it stands, at any values: the body at every grid point, with nothing said of what it leaves in its
   outputs, and the launch. -/
module

public import proofs.«01_k».proof.Proof.WordRunB
public import Idealize.ShloMosaic.Lib.Claim

@[expose] public section

-- membership in a rectangle of production extents (`View.cover_of_tiled`): the elaborator's structural look
-- recurses once per coordinate of the long axes
set_option maxRecDepth 16384

noncomputable section

namespace Cert.Kernel.Word

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 128 := lt_of_lt_of_eq t.isLt (show cfg0.N = 128 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- `Cert.quiescent_Kernel`'s statement (Defs.lean) at any `F`; Proof.lean uses it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Word

end
-- ==== Proof.Scale.lean ====
/- The two readings of a group's scale agree.

   The reference takes the exponent of the least power of two above `v` as `⌊log v / log 2⌋ + 1` and raises two to it. The
   kernel finds the exponent by eight comparisons of `v` with powers of two, each read off an integer's bits, and assembles the
   scale and its reciprocal from bits again. Both are stated here for one number, and shown equal for every number in the range
   of the precondition. -/
module

public import Idealize.ShloMosaic.Lib.Pointwise
public import Mathlib.Analysis.SpecialFunctions.Pow.Real

@[expose] public section

noncomputable section

namespace Cert.Scale

open Idealize.ShloMosaic

/-- The constant 1/448 rounded to f32, by which the largest magnitude of a group is multiplied. -/
abbrev c448 : EReal := Ideal.ofBits .f32 0x3B124925#32

/-- One comparison of the kernel's search: the bit `b` is kept where `v` reaches the power of two it makes. -/
def step (v : EReal) (bits b : BitVec 32) : BitVec 32 :=
  Scalar.select (Ideal.cmp .olt v (Ideal.ofBits .f32 (IntOp.addi bits b))) bits (IntOp.addi bits b)

/-- The kernel's exponent field of `v`, in place: eight comparisons, highest bit first. -/
def expBits (v : EReal) : BitVec 32 :=
  step v (step v (step v (step v (step v (step v (step v (step v 0#32 1073741824#32) 536870912#32) 268435456#32) 134217728#32)
    67108864#32) 33554432#32) 16777216#32) 8388608#32

/-- The kernel's scale of a group of largest magnitude `a`. -/
def scaleK (a : EReal) : EReal :=
  Scalar.select (Ideal.cmp .oeq a (Ideal.ofBits .f32 0x00000000#32)) (Ideal.ofBits .f32 0x3F800000#32)
    (Ideal.ofBits .f32 (IntOp.addi (expBits (a * c448)) 8388608#32))

/-- The kernel's reciprocal of that scale. -/
def invK (a : EReal) : EReal :=
  Scalar.select (Ideal.cmp .oeq a (Ideal.ofBits .f32 0x00000000#32)) (Ideal.ofBits .f32 0x3F800000#32)
    (Ideal.ofBits .f32 (IntOp.subi 2122317824#32 (expBits (a * c448))))

/-- The reference's exponent of a group of largest magnitude `a`. -/
def expR (a : EReal) : EReal :=
  Scalar.select (Ideal.cmp .oeq a (Ideal.ofBits .f32 0x00000000#32)) (Ideal.ofBits .f32 0x00000000#32)
    (Ideal.liftRound Int.floor (Ideal.div (Ideal.log (a * c448)) (Ideal.log (Ideal.ofBits .f32 0x40000000#32)))
      + Ideal.ofBits .f32 0x3F800000#32)

/-- The range in which the scale and its reciprocal are normal numbers. -/
def InRange (a : EReal) : Prop :=
  a = Ideal.ofBits .f32 0x00000000#32
    ∨ (Ideal.ofBits .f32 0x00400000#32 ≤ a * c448 ∧ a * c448 < Ideal.ofBits .f32 0x7E800000#32)

/-- The word with exponent field `k` and no other bit. -/
abbrev word (k : ℕ) : BitVec 32 := BitVec.ofNat 32 (k * 8388608)

theorem word_fields : ∀ k : Fin 256, (word k).extractLsb' 31 1 = 0#1 ∧ ((word k).extractLsb' 23 8).toNat = k.val
    ∧ ((word k).extractLsb' 0 23).toNat = 0 := by decide +kernel

/-- What such a word reads as: a power of two, for every field but the two outermost. -/
theorem ofBits_word (k : ℕ) (h0 : 0 < k) (h1 : k < 255) : Ideal.ofBits .f32 (word k) = (((2 : ℝ) ^ ((k : ℤ) - 127) : ℝ) : EReal) := by
  obtain ⟨e1, e2, e3⟩ := word_fields ⟨k, by omega⟩
  have hs : (2 : ℝ) ^ ((k : ℤ) - 127) = 2 ^ 23 * (2 : ℝ) ^ ((k : ℤ) - 127 - 23) := by
    rw [← zpow_natCast, ← zpow_add₀ (by norm_num)]; congr 1; omega
  rw [hs]
  unfold Ideal.ofBits
  simp only [Ideal.ieee, Nat.reduceAdd, e1, e2, e3]
  rw [if_neg (by omega), if_neg (by omega)]
  norm_num

theorem ofBits_word_top : Ideal.ofBits .f32 (word 255) = ⊤ := by
  obtain ⟨e1, e2, e3⟩ := word_fields 255
  unfold Ideal.ofBits
  simp only [Ideal.ieee, Nat.reduceAdd]
  erw [e1, e2, e3]
  rfl

/-- Of a number between two consecutive powers of two, `v < ` a word's reading is a comparison of exponents. -/
theorem lt_word (r : ℝ) (E : ℕ) (hE : E < 254) (lo : (2 : ℝ) ^ ((E : ℤ) - 127) ≤ r) (hi : r < (2 : ℝ) ^ ((E : ℤ) - 126))
    (k : ℕ) (h0 : 0 < k) (h1 : k ≤ 255) : ((r : EReal) < Ideal.ofBits .f32 (word k)) ↔ E < k := by
  rcases Nat.lt_or_ge k 255 with hk | hk
  · rw [ofBits_word k h0 hk, EReal.coe_lt_coe_iff]
    constructor
    · intro h
      have := lt_of_le_of_lt lo h
      have := (zpow_lt_zpow_iff_right₀ (by norm_num : (1 : ℝ) < 2)).1 this
      omega
    · intro h
      refine lt_of_lt_of_le hi ?_
      exact (zpow_le_zpow_iff_right₀ (by norm_num : (1 : ℝ) < 2)).2 (by omega)
  · obtain rfl : k = 255 := by omega
    rw [ofBits_word_top]
    exact ⟨fun _ => by omega, fun _ => EReal.coe_lt_top r⟩

/-- One comparison on exponents. -/
def nstep (E p q : ℕ) : ℕ := if E < p + q then p else p + q

theorem nstep_le (E p q B : ℕ) (h : p ≤ B) : nstep E p q ≤ B + q := by
  unfold nstep; split <;> omega

theorem word_add (p q : ℕ) : IntOp.addi (word p) (word q) = word (p + q) := by
  show BitVec.ofNat 32 (p * 8388608) + BitVec.ofNat 32 (q * 8388608) = BitVec.ofNat 32 ((p + q) * 8388608)
  rw [← BitVec.ofNat_add, Nat.add_mul]

theorem step_word (r : ℝ) (E : ℕ) (hE : E < 254) (lo : (2 : ℝ) ^ ((E : ℤ) - 127) ≤ r) (hi : r < (2 : ℝ) ^ ((E : ℤ) - 126))
    (p q B : ℕ) (hq : 0 < q) (hp : p ≤ B) (hB : B + q ≤ 255) : step r (word p) (word q) = word (nstep E p q) := by
  unfold step nstep
  rw [word_add]
  have := lt_word r E hE lo hi (p + q) (by omega) (by omega)
  by_cases h : E < p + q
  · rw [if_pos h]; simp [Ideal.cmp, this.2 h, Scalar.select]
  · rw [if_neg h]
    have h' : ¬ ((r : EReal) < Ideal.ofBits .f32 (word (p + q))) := fun hh => h (this.1 hh)
    simp [Ideal.cmp, h', Scalar.select]

theorem search : ∀ E : Fin 254, nstep E (nstep E (nstep E (nstep E (nstep E (nstep E (nstep E (nstep E 0 128) 64) 32) 16) 8) 4) 2) 1
    = E.val := by decide +kernel

/-- THE SEARCH FINDS THE EXPONENT. -/
theorem expBits_eq (r : ℝ) (E : ℕ) (hE : E < 254) (lo : (2 : ℝ) ^ ((E : ℤ) - 127) ≤ r) (hi : r < (2 : ℝ) ^ ((E : ℤ) - 126)) :
    expBits r = word E := by
  have s := fun p q B hq hp hB => step_word r E hE lo hi p q B hq hp hB
  unfold expBits
  rw [show (0#32 : BitVec 32) = word 0 from rfl, show (1073741824#32 : BitVec 32) = word 128 from rfl,
    show (536870912#32 : BitVec 32) = word 64 from rfl, show (268435456#32 : BitVec 32) = word 32 from rfl,
    show (134217728#32 : BitVec 32) = word 16 from rfl, show (67108864#32 : BitVec 32) = word 8 from rfl,
    show (33554432#32 : BitVec 32) = word 4 from rfl, show (16777216#32 : BitVec 32) = word 2 from rfl,
    show (8388608#32 : BitVec 32) = word 1 from rfl]
  have b1 := nstep_le E 0 128 0 le_rfl
  have b2 := nstep_le E _ 64 _ b1
  have b3 := nstep_le E _ 32 _ b2
  have b4 := nstep_le E _ 16 _ b3
  have b5 := nstep_le E _ 8 _ b4
  have b6 := nstep_le E _ 4 _ b5
  have b7 := nstep_le E _ 2 _ b6
  rw [s 0 128 0 (by omega) le_rfl (by omega), s _ 64 _ (by omega) b1 (by omega), s _ 32 _ (by omega) b2 (by omega),
    s _ 16 _ (by omega) b3 (by omega), s _ 8 _ (by omega) b4 (by omega), s _ 4 _ (by omega) b5 (by omega),
    s _ 2 _ (by omega) b6 (by omega), s _ 1 _ (by omega) b7 (by omega), search ⟨E, hE⟩]

theorem ofBits_two : Ideal.ofBits .f32 0x40000000#32 = ((2 : ℝ) : EReal) := by
  have := ofBits_word 128 (by omega) (by omega)
  rw [show (0x40000000#32 : BitVec 32) = word 128 from rfl, this]; norm_num

theorem ofBits_one : Ideal.ofBits .f32 0x3F800000#32 = ((1 : ℝ) : EReal) := by
  have := ofBits_word 127 (by omega) (by omega)
  rw [show (0x3F800000#32 : BitVec 32) = word 127 from rfl, this]; norm_num

theorem ofBits_zero : Ideal.ofBits .f32 0x00000000#32 = 0 := by
  simp [Ideal.ofBits, Ideal.ieee]

theorem ofBits_low : Ideal.ofBits .f32 0x00400000#32 = (((2 : ℝ) ^ (-127 : ℤ) : ℝ) : EReal) := by
  have e1 : (0x00400000#32 : BitVec 32).extractLsb' 31 1 = 0#1 := by decide
  have e2 : ((0x00400000#32 : BitVec 32).extractLsb' 23 8).toNat = 0 := by decide
  have e3 : ((0x00400000#32 : BitVec 32).extractLsb' 0 23).toNat = 4194304 := by decide
  unfold Ideal.ofBits
  simp only [Ideal.ieee, Nat.reduceAdd, e1, e2, e3]
  norm_num

theorem ofBits_high : Ideal.ofBits .f32 0x7E800000#32 = (((2 : ℝ) ^ (126 : ℤ) : ℝ) : EReal) := by
  have := ofBits_word 253 (by omega) (by omega)
  rw [show (0x7E800000#32 : BitVec 32) = word 253 from rfl, this]; norm_num

theorem sel1 {α : Type} (x y : α) : Scalar.select 1#1 x y = x := if_pos rfl
theorem sel0 {α : Type} (x y : α) : Scalar.select 0#1 x y = y := if_neg (by decide)

/-- THE KERNEL'S SCALE AND ITS RECIPROCAL ARE THE REFERENCE'S. -/
theorem scale_eq (a : EReal) (h : InRange a) : scaleK a = Ideal.exp2 (expR a) ∧ invK a = Ideal.exp2 (Ideal.ofBits .f32 0x00000000#32 - expR a) := by
  by_cases ha : a = Ideal.ofBits .f32 0x00000000#32
  · have h1 : Ideal.cmp .oeq a (Ideal.ofBits .f32 0x00000000#32) = 1#1 := by simp [Ideal.cmp, ha]
    unfold scaleK invK expR
    rw [h1, sel1, sel1, sel1, ofBits_zero, ofBits_one]
    have e : (0 : EReal) = ((0 : ℝ) : EReal) := rfl
    have : Ideal.exp2 (0 : EReal) = ((1 : ℝ) : EReal) := by rw [e, Ideal.exp2_coe]; norm_num
    constructor
    · exact this.symm
    · rw [sub_zero]; exact this.symm
  · have h1 : Ideal.cmp .oeq a (Ideal.ofBits .f32 0x00000000#32) = 0#1 := by
      show BitVec.ofBool (decide (a = Ideal.ofBits .f32 0x00000000#32)) = 0#1
      rw [decide_eq_false ha]; rfl
    rcases h with h | ⟨hl, hh⟩
    · exact absurd h ha
    unfold scaleK invK expR
    rw [h1, sel0, sel0, sel0]
    rw [ofBits_low] at hl; rw [ofBits_high] at hh
    generalize a * c448 = v at hl hh ⊢
    induction v using EReal.rec with
    | bot => exact absurd hl (by simp)
    | top => exact absurd hh (by simp)
    | coe r =>
      rw [EReal.coe_le_coe_iff] at hl; rw [EReal.coe_lt_coe_iff] at hh
      have hr : 0 < r := lt_of_lt_of_le (by positivity) hl
      obtain ⟨n, lo, hi⟩ := exists_mem_Ico_zpow hr (by norm_num : (1 : ℝ) < 2)
      have n0 : -127 ≤ n := by
        have := lt_of_le_of_lt hl hi
        have := (zpow_lt_zpow_iff_right₀ (by norm_num : (1 : ℝ) < 2)).1 this
        omega
      have n1 : n < 126 := (zpow_lt_zpow_iff_right₀ (by norm_num : (1 : ℝ) < 2)).1 (lt_of_le_of_lt lo hh)
      obtain ⟨E, hE⟩ : ∃ E : ℕ, (E : ℤ) = n + 127 := ⟨(n + 127).toNat, by omega⟩
      have nE : n = (E : ℤ) - 127 := by omega
      have hE' : E < 253 := by omega
      rw [expBits_eq r E (by omega) (by rw [← nE]; exact lo) (by rw [show (E : ℤ) - 126 = n + 1 by omega]; exact hi)]
      have fl : Ideal.liftRound Int.floor (Ideal.div (Ideal.log (r : EReal)) (Ideal.log (Ideal.ofBits .f32 0x40000000#32)))
          = (((n : ℤ) : ℝ) : EReal) := by
        rw [ofBits_two, Ideal.log_coe, Ideal.log_coe, if_neg (not_le.2 hr), if_neg (by norm_num),
          Ideal.div_coe (Real.log_pos (by norm_num)).ne', ← EReal.coe_mul, Ideal.liftRound_coe]
        congr 2
        have h2 : 0 < Real.log 2 := Real.log_pos (by norm_num)
        rw [mul_one_div, Int.floor_eq_iff, le_div_iff₀ h2, div_lt_iff₀ h2]
        constructor
        · rw [← Real.log_zpow]; exact Real.log_le_log (by positivity) lo
        · rw [show ((n : ℝ) + 1) = ((n + 1 : ℤ) : ℝ) by push_cast; rfl, ← Real.log_zpow]
          exact Real.log_lt_log hr hi
      rw [fl, ofBits_one, ← EReal.coe_add, ofBits_zero, sub_eq_add_neg, zero_add, ← EReal.coe_neg, Ideal.exp2_coe, Ideal.exp2_coe]
      rw [show IntOp.addi (word E) 8388608#32 = word (E + 1) from word_add E 1]
      rw [show IntOp.subi 2122317824#32 (word E) = word (253 - E) from by
        show BitVec.ofNat 32 (253 * 8388608) - word E = _
        have : word 253 = word (253 - E) + word E := by
          rw [show word (253 - E) + word E = word (253 - E + E) from word_add _ _]; congr 1; omega
        show word 253 - word E = _
        rw [this, BitVec.add_sub_cancel]]
      rw [ofBits_word _ (by omega) (by omega), ofBits_word _ (by omega) (by omega)]
      have p : ∀ z : ℤ, Real.rpow 2 (z : ℝ) = (2 : ℝ) ^ z := fun z => Real.rpow_intCast 2 z
      constructor
      · rw [show ((n : ℝ) + 1) = ((n + 1 : ℤ) : ℝ) by push_cast; rfl, p]
        congr 2; omega
      · rw [show (-((n : ℝ) + 1)) = ((-(n + 1) : ℤ) : ℝ) by push_cast; rfl, p]
        congr 2; omega

end Cert.Scale

end
-- ==== Proof.Slab.lean ====
/- What the kernel computes on one slab of thirty-two rows of a 512-row block of `x`, at the exact instance.

   The kernel's loop takes the block thirty-two rows at a time, a slab being sixty-four groups of 128 columns. It gathers the
   groups' largest magnitudes into one 32 × 64 vector, a column at a time (`maxStep`); makes the scales and their reciprocals from
   it; and for each group stores the codes and the rescaled codes. Here: the block functions (`amaxBlk`, `scaleBlk`, `codesBlk`,
   `xwBlk`), and that each of these vector expressions is the block function at the slab's place. -/
module

public import proofs.«01_k».proof.Proof.Gen.KernelIdeal.Loops
public import proofs.«01_k».proof.Proof.Scale
public import Idealize.ShloMosaic.Lib.Pointwise

@[expose] public section

set_option maxRecDepth 16384

noncomputable section

namespace Cert.KernelIdeal.Slab

open Idealize.ShloMosaic Cert.KernelIdeal Cert.KernelIdeal.Gen Cert.Scale

/-- The largest magnitude of row `r`, group `g` of a block. -/
def amaxBlk (X : S512x8192.Idx → EReal) (r : Fin 512) (g : Fin 64) : EReal :=
  (Finset.univ : Finset (Fin 128)).fold max (Ideal.ofBits .f32 0xFF800000#32)
    fun l => FloatOps.absf (F := Ideal) (φ := .f32) (X (ix2 r ⟨128 * g.val + l.val, by omega⟩))

/-- The scale of each row and group. -/
def scaleBlk (X : S512x8192.Idx → EReal) : S512x64.Idx → EReal := fun y => scaleK (amaxBlk X (y 0) (y 1))

/-- The group of a column. -/
def grp (y : S512x8192.Idx) : Fin 64 := ⟨(y 1).val / 128, by have : (y 1).val < 8192 := (y 1).isLt; omega⟩

/-- The codes: each element times the reciprocal of its group's scale, clipped to ±448. -/
def codesBlk (X : S512x8192.Idx → EReal) : S512x8192.Idx → EReal := fun y =>
  min (Ideal.ofBits .f32 0x43E00000#32) (max (Ideal.ofBits .f32 0xC3E00000#32) (X y * invK (amaxBlk X (y 0) (grp y))))

/-- The codes times their group's scale again. -/
def xwBlk (X : S512x8192.Idx → EReal) : S512x8192.Idx → EReal := fun y => codesBlk X y * scaleK (amaxBlk X (y 0) (grp y))

/-- `L` is the slab's group `g`: rows `32k …`, columns `128g …` of the block. -/
def Loads (X : S512x8192.Idx → EReal) (k g : ℕ) (L : S32x128.Idx → EReal) : Prop :=
  ∀ (r : Fin 32) (l : Fin 128) (h1 : 32 * k + r.val < 512) (h2 : 128 * g + l.val < 8192),
    L (ix2 r l) = X (ix2 ⟨32 * k + r.val, h1⟩ ⟨128 * g + l.val, h2⟩)

theorem loads_of {X : S512x8192.Idx → EReal} {k g : ℕ} (m : Memref sig .tc .vmem S512x8192 .bf16) (f : BufTy.Contents (Elt Ideal) m.view.ty)
    (hX : m.view.read (Elt Ideal) f = X) (off : Fin 2 → ℕ) (h : ∀ a, off a + S32x128.size a ≤ S512x8192.size a) (ho : off = ![32 * k, 128 * g]) :
    Loads X k g (View.readAt (Elt Ideal) m.view (Rect.unit (s := S512x8192) off S32x128.size h).toLoadRect f) := by
  subst hX ho
  intro r l h1 h2
  rw [View.readAt_eq_ld]
  pointwise

theorem loads_cast {X : S512x8192.Idx → EReal} {k g : ℕ} {L : FVec Ideal S32x128 .bf16} {h : S32x128.ShapeCasts S32x128} (hL : Loads X k g L) :
    Loads X k g (shapeCast S32x128 L h) := by
  intro r l h1 h2
  rw [← hL r l h1 h2]
  pointwise

/-- One group's largest magnitudes put into column `n` of the 32 × 64 vector. -/
def maxStep (n : BitVec 32) (prev : FVec Ideal S32x64 .f32) (L : FVec Ideal S32x128 .bf16) : FVec Ideal S32x64 .f32 :=
  select (cmpi .eq (iota .tc S32x64 32 [1] iota_S32x64_d1_w32) (broadcast S32x64 n))
    (broadcastTo S32x64 (shapeCast S32x1 (shapeCast S32x1
      (multiReduction .maximumf [1] S32 (absf (extf .f32 L bitsLt_bf16_f32)) 0xFF800000#32 reduces_S32x128_S32 (.inl rfl) rfl)
      shapeCasts_S32_S32x1) shapeCasts_S32x1_S32x1) broadcasts_S32x1_S32x64) prev

theorem maxStep_apply (n : BitVec 32) (prev : FVec Ideal S32x64 .f32) (L : FVec Ideal S32x128 .bf16) (r : Fin 32) (g : Fin 64) :
    maxStep n prev L (ix2 r g) = Scalar.select (IntOp.cmpi .eq (BitVec.ofNat 32 g.val) n)
      ((Finset.univ : Finset (Fin 128)).fold max (Ideal.ofBits .f32 0xFF800000#32) fun l => FloatOps.absf (F := Ideal) (φ := .f32) (L (ix2 r l)))
      (prev (ix2 r g)) := by
  pointwise [maxStep]

/-- The first `n` columns hold the groups' largest magnitudes. -/
def Good (X : S512x8192.Idx → EReal) (k n : ℕ) (v : FVec Ideal S32x64 .f32) : Prop :=
  ∀ (r : Fin 32) (g : Fin 64) (h1 : 32 * k + r.val < 512), g.val < n → v (ix2 r g) = amaxBlk X ⟨32 * k + r.val, h1⟩ g

theorem good_zero {X : S512x8192.Idx → EReal} {k : ℕ} {v : FVec Ideal S32x64 .f32} : Good X k 0 v := fun _ _ _ h => absurd h (Nat.not_lt_zero _)

theorem good_step {X : S512x8192.Idx → EReal} {k n : ℕ} {bv : BitVec 32} {prev : FVec Ideal S32x64 .f32} {L : FVec Ideal S32x128 .bf16}
    (hn : bv = BitVec.ofNat 32 n) (hn' : n < 64) (hp : Good X k n prev) (hL : Loads X k n L) : Good X k (n + 1) (maxStep bv prev L) := by
  intro r g h1 hg
  rw [maxStep_apply, hn]
  by_cases h : g.val = n
  · rw [show IntOp.cmpi .eq (BitVec.ofNat 32 g.val) (BitVec.ofNat 32 n) = 1#1 by rw [h]; exact IntOp.cmpi_eq_self _, sel1]
    subst h
    unfold amaxBlk
    congr 1
    funext l
    rw [hL r l h1 (by omega)]
  · rw [show IntOp.cmpi .eq (BitVec.ofNat 32 g.val) (BitVec.ofNat 32 n) = 0#1 from ?_, sel0]
    · exact hp r g h1 (by omega)
    · have : BitVec.ofNat 32 g.val ≠ BitVec.ofNat 32 n := by
        intro e
        have := congrArg BitVec.toNat e
        simp only [BitVec.toNat_ofNat] at this
        omega
      show BitVec.ofBool (BitVec.ofNat 32 g.val == BitVec.ofNat 32 n) = 0#1
      rw [beq_eq_false_iff_ne.2 this]; rfl

/-- One comparison of the exponent search, on vectors. -/
def stepV (a : FVec Ideal S32x64 .f32) (bits : IVec S32x64 32) (b : BitVec 32) : IVec S32x64 32 :=
  select (cmpf .olt a (bitcastToFloat .f32 (addi bits (broadcast S32x64 b)))) bits (addi bits (broadcast S32x64 b))

theorem stepV_apply (a : FVec Ideal S32x64 .f32) (bits : IVec S32x64 32) (b : BitVec 32) (j : S32x64.Idx) :
    stepV a bits b j = step (a j) (bits j) b := rfl

/-- The codes of one group of the slab, from the 32 × 64 vector of reciprocals. -/
def codesV (sl : Fin 2 → ℕ) (hs : S32x64.Slices sl S32x1) (inv : FVec Ideal S32x64 .f32) (L : FVec Ideal S32x128 .f32) : FVec Ideal S32x128 .fp8e4m3 :=
  truncf .fp8e4m3 (minimumf (broadcast S32x128 (Scalar.ofBits .f32 0x43E00000#32))
    (maximumf (broadcast S32x128 (Scalar.ofBits .f32 0xC3E00000#32))
      (mulf L (broadcastTo S32x128 (extractStridedSlice S32x1 sl inv hs) broadcasts_S32x1_S32x128)))) bitsLt_fp8e4m3_f32

/-- The codes of one group times its scale. -/
def xwV (sl : Fin 2 → ℕ) (hs : S32x64.Slices sl S32x1) (scale : FVec Ideal S32x64 .f32) (C : FVec Ideal S32x128 .fp8e4m3) : FVec Ideal S32x128 .bf16 :=
  shapeCast S32x128 (mulf (extf .bf16 C bitsLt_fp8e4m3_bf16)
    (broadcastTo S32x128 (truncf .bf16 (extractStridedSlice S32x1 sl scale hs) bitsLt_bf16_f32) broadcasts_S32x1_S32x128))
    shapeCasts_S32x128_S32x128

theorem codesV_apply (g : ℕ) (hg : g < 64) (hs) (inv : FVec Ideal S32x64 .f32) (L : FVec Ideal S32x128 .f32) (r : Fin 32) (l : Fin 128) :
    codesV ![0, g] hs inv L (ix2 r l) = min (Ideal.ofBits .f32 0x43E00000#32) (max (Ideal.ofBits .f32 0xC3E00000#32) (L (ix2 r l) * inv (ix2 r ⟨g, hg⟩))) := by
  pointwise [codesV]

theorem xwV_apply (g : ℕ) (hg : g < 64) (hs) (scale : FVec Ideal S32x64 .f32) (C : FVec Ideal S32x128 .fp8e4m3) (r : Fin 32) (l : Fin 128) :
    xwV ![0, g] hs scale C (ix2 r l) = C (ix2 r l) * scale (ix2 r ⟨g, hg⟩) := by
  pointwise [xwV]

/-- The list of stores `L` into a buffer, of which every one stores `G` restricted to where it stores, and which together reach
    every element of slab `k` in the columns below `n`. -/
structure Pieces {C : ℕ} {η : EltTy} (G : (⟨2, ![512, C]⟩ : Shape).Idx → Elt Ideal η) (k n : ℕ)
    (L : List (View.Piece (Elt Ideal) (⟨2, ![512, C]⟩ : Shape) η)) : Prop where
  agree : ∀ p ∈ L, ∀ x : p.1.shape.Idx, p.2 x = G (p.1.emb x)
  reach : ∀ y : (⟨2, ![512, C]⟩ : Shape).Idx, (y 0).val / 32 = k → (y 1).val < n → ∃ p ∈ L, y ∈ p.1.set

theorem pieces_nil {C : ℕ} {η : EltTy} (G : (⟨2, ![512, C]⟩ : Shape).Idx → Elt Ideal η) (k : ℕ) : Pieces G k 0 [] :=
  ⟨fun _ h => absurd h List.not_mem_nil, fun _ _ h => absurd h (Nat.not_lt_zero _)⟩

/-- One more store, thirty-two rows by `w` columns at row `32k`, column `n`. -/
theorem pieces_cons {C : ℕ} {η : EltTy} {G : (⟨2, ![512, C]⟩ : Shape).Idx → Elt Ideal η} {k n w : ℕ}
    {L : List (View.Piece (Elt Ideal) (⟨2, ![512, C]⟩ : Shape) η)} {off : Fin 2 → ℕ}
    {hb : ∀ a, off a + (⟨2, ![32, w]⟩ : Shape).size a ≤ (⟨2, ![512, C]⟩ : Shape).size a}
    {v : (⟨2, ![32, w]⟩ : Shape).Idx → Elt Ideal η} (hL : Pieces G k n L) (ho : off = ![32 * k, n])
    (hv : ∀ (r : Fin 32) (l : Fin w) (h1 : 32 * k + r.val < 512) (h2 : n + l.val < C),
      v (ix2 r l) = G (ix2 ⟨32 * k + r.val, h1⟩ ⟨n + l.val, h2⟩)) :
    Pieces G k (n + w) (⟨Rect.unit (s := ⟨2, ![512, C]⟩) off (⟨2, ![32, w]⟩ : Shape).size hb, v⟩ :: L) := by
  subst ho
  have b0 : 32 * k + 32 ≤ 512 := hb 0
  have b1 : n + w ≤ C := hb 1
  refine ⟨fun p hp => ?_, fun y h0 h1 => ?_⟩
  · rcases List.mem_cons.1 hp with rfl | hp
    · intro x
      obtain ⟨r, l, rfl⟩ : ∃ (r : Fin 32) (l : Fin w), x = ix2 r l := ⟨x 0, x 1, by funext a; match a with | 0 => rfl | 1 => rfl⟩
      refine (hv r l (by omega) (by omega)).trans (congrArg G ?_)
      funext a
      apply Fin.ext
      match a with
      | 0 => exact (congrArg (32 * k + ·) (Nat.one_mul _)).symm
      | 1 => exact (congrArg (n + ·) (Nat.one_mul _)).symm
    · exact hL.agree p hp
  · by_cases h : (y 1).val < n
    · obtain ⟨p, hp, hy⟩ := hL.reach y h0 h
      exact ⟨p, List.mem_cons_of_mem _ hp, hy⟩
    · refine ⟨_, List.mem_cons_self, (Rect.mem_set_unit (inb := hb)).2 fun a => ?_⟩
      match a with
      | 0 => exact ⟨show 32 * k ≤ (y 0).val by omega, show (y 0).val < 32 * k + 32 by omega⟩
      | 1 => exact ⟨show n ≤ (y 1).val by omega, show (y 1).val < n + w by omega⟩

/-- The 32 × 64 vector `v` is `f` of the groups' largest magnitudes. -/
def OfMax (X : S512x8192.Idx → EReal) (k : ℕ) (f : EReal → EReal) (v : FVec Ideal S32x64 .f32) : Prop :=
  ∀ (r : Fin 32) (g : Fin 64) (h1 : 32 * k + r.val < 512), v (ix2 r g) = f (amaxBlk X ⟨32 * k + r.val, h1⟩ g)

theorem grp_eq {g : ℕ} (hg : g < 64) (r : Fin 512) (l : Fin 128) (h : 128 * g + l.val < 8192) :
    grp (ix2 r ⟨128 * g + l.val, h⟩) = ⟨g, hg⟩ := Fin.ext (show (128 * g + l.val) / 128 = g by omega)

theorem codesV_at {X : S512x8192.Idx → EReal} {k g : ℕ} {hs : S32x64.Slices ![0, g] S32x1} {inv : FVec Ideal S32x64 .f32}
    {L : FVec Ideal S32x128 .f32} (hg : g < 64) (hinv : OfMax X k invK inv) (hL : Loads X k g L)
    (r : Fin 32) (l : Fin 128) (h1 : 32 * k + r.val < 512) (h2 : 128 * g + l.val < 8192) :
    codesV ![0, g] hs inv L (ix2 r l) = codesBlk X (ix2 ⟨32 * k + r.val, h1⟩ ⟨128 * g + l.val, h2⟩) := by
  rw [codesV_apply g hg, hL r l h1 h2, hinv r ⟨g, hg⟩ h1]
  unfold codesBlk
  rw [grp_eq hg _ l h2]
  rfl

theorem xwV_at {X : S512x8192.Idx → EReal} {k g : ℕ} {hs hs' : S32x64.Slices ![0, g] S32x1} {inv scale : FVec Ideal S32x64 .f32}
    {L : FVec Ideal S32x128 .f32} (hg : g < 64) (hinv : OfMax X k invK inv) (hsc : OfMax X k scaleK scale) (hL : Loads X k g L)
    (r : Fin 32) (l : Fin 128) (h1 : 32 * k + r.val < 512) (h2 : 128 * g + l.val < 8192) :
    xwV ![0, g] hs scale (codesV ![0, g] hs' inv L) (ix2 r l) = xwBlk X (ix2 ⟨32 * k + r.val, h1⟩ ⟨128 * g + l.val, h2⟩) := by
  rw [xwV_apply g hg, codesV_at hg hinv hL r l h1 h2, hsc r ⟨g, hg⟩ h1]
  unfold xwBlk
  rw [grp_eq hg _ l h2]
  rfl

/-- One more group's codes stored. -/
theorem codes_cons {X : S512x8192.Idx → EReal} {k g : ℕ} {hs : S32x64.Slices ![0, g] S32x1} {inv : FVec Ideal S32x64 .f32}
    {L : FVec Ideal S32x128 .f32} {T : List (View.Piece (Elt Ideal) S512x8192 .fp8e4m3)} {off : Fin 2 → ℕ}
    {hb : ∀ a, off a + S32x128.size a ≤ S512x8192.size a} (hg : g < 64) (ho : off = ![32 * k, 128 * g])
    (hinv : OfMax X k invK inv) (hL : Loads X k g L) (hT : Pieces (C := 8192) (η := .fp8e4m3) (codesBlk X) k (128 * g) T) :
    Pieces (C := 8192) (η := .fp8e4m3) (codesBlk X) k (128 * (g + 1)) (⟨Rect.unit (s := S512x8192) off S32x128.size hb, codesV ![0, g] hs inv L⟩ :: T) :=
  pieces_cons (w := 128) hT ho fun r l h1 h2 => codesV_at hg hinv hL r l h1 h2

/-- One more group's rescaled codes stored. -/
theorem xw_cons {X : S512x8192.Idx → EReal} {k g : ℕ} {hs hs' : S32x64.Slices ![0, g] S32x1} {inv scale : FVec Ideal S32x64 .f32}
    {L : FVec Ideal S32x128 .f32} {T : List (View.Piece (Elt Ideal) S512x8192 .bf16)} {off : Fin 2 → ℕ}
    {hb : ∀ a, off a + S32x128.size a ≤ S512x8192.size a} (hg : g < 64) (ho : off = ![32 * k, 128 * g])
    (hinv : OfMax X k invK inv) (hsc : OfMax X k scaleK scale) (hL : Loads X k g L)
    (hT : Pieces (C := 8192) (η := .bf16) (xwBlk X) k (128 * g) T) :
    Pieces (C := 8192) (η := .bf16) (xwBlk X) k (128 * (g + 1))
      (⟨Rect.unit (s := S512x8192) off S32x128.size hb, xwV ![0, g] hs scale (codesV ![0, g] hs' inv L)⟩ :: T) :=
  pieces_cons (w := 128) hT ho fun r l h1 h2 => xwV_at hg hinv hsc hL r l h1 h2

end Cert.KernelIdeal.Slab

end
-- ==== Proof.Trip.lean ====
/- One trip of the kernel's loop, and the loop as a whole: what the stores leave in the codes, the scales and the rescaled codes.

   A trip's stores are read off the generated walk of the trip. Its chain of sixty-four `maxStep`s gives the groups' largest
   magnitudes, the exponent search gives the scales and reciprocals, and each of the sixty-four groups then stores its codes and
   rescaled codes; so every store is the block function at its place, and a trip reaches every element of its slab. -/
module

public import proofs.«01_k».proof.Proof.Slab

@[expose] public section

set_option maxRecDepth 16384

noncomputable section

namespace Cert.KernelIdeal.Slab

open Idealize.ShloMosaic Cert.KernelIdeal Cert.KernelIdeal.Gen Cert.Scale

/-- A load of the slab's group `g`, its offset in closed form. -/
theorem loads_at {X : S512x8192.Idx → EReal} {k g : ℕ} {m : Memref sig .tc .vmem S512x8192 .bf16} {f : BufTy.Contents (Elt Ideal) m.view.ty}
    (hX : m.view.read (Elt Ideal) f = X) {off : Fin 2 → ℕ} {h : ∀ a, off a + S32x128.size a ≤ S512x8192.size a} [c : ClosedOff off]
    (ho : c.form = ![32 * k, 128 * g]) :
    Loads X k g (View.readAt (Elt Ideal) m.view (Rect.unit (s := S512x8192) off S32x128.size h).toLoadRect f) :=
  loads_of m f hX off h (c.eq.trans ho)

theorem search_first (v53 : IVec S32x64 32) (p : FVec Ideal S32x64 .f32) (L : FVec Ideal S32x128 .bf16) :
    k0_pay38 v53 p L = stepV (k0_pay37 v53 p L) (stepV (k0_pay37 v53 p L) (stepV (k0_pay37 v53 p L) (stepV (k0_pay37 v53 p L)
      (stepV (k0_pay37 v53 p L) (stepV (k0_pay37 v53 p L) (stepV (k0_pay37 v53 p L) (broadcast S32x64 0#32) 1073741824#32) 536870912#32)
      268435456#32) 134217728#32) 67108864#32) 33554432#32) 16777216#32 := by
  delta k0_pay38
  generalize k0_pay37 v53 p L = a
  delta stepV
  rfl

theorem search_last (a : FVec Ideal S32x64 .f32) (b : IVec S32x64 32) : k0_pay40 a b k0_pay39 = stepV a b 8388608#32 := rfl

theorem scaled_apply (v53 : IVec S32x64 32) (p : FVec Ideal S32x64 .f32) (L : FVec Ideal S32x128 .bf16) (j : S32x64.Idx) :
    k0_pay37 v53 p L j = k0_pay36 v53 p L j * c448 := rfl

/-- The exponent search on vectors is the search at each element. -/
theorem search_apply (v53 : IVec S32x64 32) (p : FVec Ideal S32x64 .f32) (L : FVec Ideal S32x128 .bf16) (j : S32x64.Idx) :
    k0_pay40 (k0_pay37 v53 p L) (k0_pay38 v53 p L) k0_pay39 j = expBits (k0_pay36 v53 p L j * c448) := by
  rw [search_last, search_first, ← scaled_apply]
  generalize k0_pay37 v53 p L = a
  rw [stepV_apply, stepV_apply, stepV_apply, stepV_apply, stepV_apply, stepV_apply, stepV_apply, stepV_apply]
  rfl

theorem scale_last (v a : FVec Ideal S32x64 .f32) (b : IVec S32x64 32) (j : S32x64.Idx) :
    k0_pay42 v a b k0_pay39 j = Scalar.select (Ideal.cmp .oeq (v j) (Ideal.ofBits .f32 0x00000000#32)) (Ideal.ofBits .f32 0x3F800000#32)
      (Ideal.ofBits .f32 (IntOp.addi (k0_pay40 a b k0_pay39 j) 8388608#32)) := rfl

theorem inv_last (v a : FVec Ideal S32x64 .f32) (b : IVec S32x64 32) (j : S32x64.Idx) :
    k0_pay43 v a b k0_pay39 j = Scalar.select (Ideal.cmp .oeq (v j) (Ideal.ofBits .f32 0x00000000#32)) (Ideal.ofBits .f32 0x3F800000#32)
      (Ideal.ofBits .f32 (IntOp.subi 2122317824#32 (k0_pay40 a b k0_pay39 j))) := rfl

theorem scale_apply (v53 : IVec S32x64 32) (p : FVec Ideal S32x64 .f32) (L : FVec Ideal S32x128 .bf16) (j : S32x64.Idx) :
    k0_pay42 (k0_pay36 v53 p L) (k0_pay37 v53 p L) (k0_pay38 v53 p L) k0_pay39 j = scaleK (k0_pay36 v53 p L j) := by
  rw [scale_last, search_apply]
  rfl

theorem inv_apply (v53 : IVec S32x64 32) (p : FVec Ideal S32x64 .f32) (L : FVec Ideal S32x128 .bf16) (j : S32x64.Idx) :
    k0_pay43 (k0_pay36 v53 p L) (k0_pay37 v53 p L) (k0_pay38 v53 p L) k0_pay39 j = invK (k0_pay36 v53 p L j) := by
  rw [inv_last, search_apply]
  rfl

section Words

variable (i : grid0.Coords) (arg2 : Memref sig .tc .vmem S512x8192 .bf16) (k0_h1 : k0_cond1 i = 1#1) (X_arg2 : BufTy.Contents (Elt Ideal) arg2.view.ty) (k : Fin k0_t1_loop.trips)

/-- After the sixty-four groups the 32 × 64 vector is the groups' largest magnitudes. -/
theorem amax_good : Good (arg2.view.read (Elt Ideal) X_arg2) k.val 64 (trip_k0_t1.sl.r_32 (F := Ideal) i arg2 k0_h1 X_arg2 k) := by
  repeat' first
    | exact good_zero
    | refine good_step rfl (by decide) ?_ ?_
    | exact loads_cast (loads_at rfl rfl)

theorem scale_ofMax : OfMax (arg2.view.read (Elt Ideal) X_arg2) k.val scaleK (trip_k0_t1.sl.r_35 (F := Ideal) i arg2 k0_h1 X_arg2 k) := by
  intro r g h1
  rw [← amax_good i arg2 k0_h1 X_arg2 k r g h1 g.isLt]
  exact scale_apply _ _ _ _

theorem inv_ofMax : OfMax (arg2.view.read (Elt Ideal) X_arg2) k.val invK (trip_k0_t1.sl.r_36 (F := Ideal) i arg2 k0_h1 X_arg2 k) := by
  intro r g h1
  rw [← amax_good i arg2 k0_h1 X_arg2 k r g h1 g.isLt]
  exact inv_apply _ _ _ _

end Words

theorem loads_ext {X : S512x8192.Idx → EReal} {k g : ℕ} {L : FVec Ideal S32x128 .bf16} {h : FTy.bf16.bits < FTy.f32.bits} (hL : Loads X k g L) :
    Loads X k g (extf .f32 L h) := hL

section Trip

variable (𝒱 : Variants) (c : Dev nD) (bd : Option 𝒱.V) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x4x8192 .bf16) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (arg9 : Memref sig .tc .vmem S512x8192 .bf16) (harg9 : arg9.IsWhole) (k0_h1 : k0_cond1 i = 1#1) (X_arg2 : BufTy.Contents (Elt Ideal) arg2.view.ty) (k : Fin k0_t1_loop.trips)

theorem trip_codes : Pieces (C := 8192) (η := .fp8e4m3) (codesBlk (arg2.view.read (Elt Ideal) X_arg2)) k.val (128 * 64)
    (tripL_k0_t1 (F := Ideal) 𝒱 c bd i arg2 harg2 arg3 harg3 arg4 harg4 arg5 harg5 arg6 harg6 arg7 harg7 arg8 harg8 arg9 harg9 k0_h1 X_arg2 k).1 := by
  unfold tripL_k0_t1 trip_k0_t1
  dsimp only
  repeat' first
    | exact pieces_nil _ _
    | refine codes_cons (by decide) (ClosedOff.eq.trans ?_) (inv_ofMax i arg2 k0_h1 X_arg2 k) (loads_ext (loads_cast (loads_at rfl ?_))) ?_
    | rfl

theorem trip_xw : Pieces (C := 8192) (η := .bf16) (xwBlk (arg2.view.read (Elt Ideal) X_arg2)) k.val (128 * 64)
    (tripL_k0_t1 (F := Ideal) 𝒱 c bd i arg2 harg2 arg3 harg3 arg4 harg4 arg5 harg5 arg6 harg6 arg7 harg7 arg8 harg8 arg9 harg9 k0_h1 X_arg2 k).2.2 := by
  unfold tripL_k0_t1 trip_k0_t1
  dsimp only
  repeat' first
    | exact pieces_nil _ _
    | refine xw_cons (by decide) (ClosedOff.eq.trans ?_) (inv_ofMax i arg2 k0_h1 X_arg2 k) (scale_ofMax i arg2 k0_h1 X_arg2 k) (loads_ext (loads_cast (loads_at rfl ?_))) ?_
    | rfl

theorem trip_scale : Pieces (C := 64) (η := .f32) (scaleBlk (arg2.view.read (Elt Ideal) X_arg2)) k.val 64
    (tripL_k0_t1 (F := Ideal) 𝒱 c bd i arg2 harg2 arg3 harg3 arg4 harg4 arg5 harg5 arg6 harg6 arg7 harg7 arg8 harg8 arg9 harg9 k0_h1 X_arg2 k).2.1 := by
  unfold tripL_k0_t1 trip_k0_t1
  dsimp only
  refine pieces_cons (w := 64) (n := 0) (pieces_nil _ _) (ClosedOff.eq.trans rfl) fun r l h1 h2 => ?_
  refine (scale_ofMax i arg2 k0_h1 X_arg2 k r l h1).trans ?_
  unfold scaleBlk
  congr 2
  exact Fin.ext (Nat.zero_add _).symm

end Trip

/-- Stores that all restrict `G` and together reach the rows of the first `K` slabs. -/
structure Rows {C : ℕ} {η : EltTy} (G : (⟨2, ![512, C]⟩ : Shape).Idx → Elt Ideal η) (K : ℕ)
    (L : List (View.Piece (Elt Ideal) (⟨2, ![512, C]⟩ : Shape) η)) : Prop where
  agree : ∀ p ∈ L, ∀ x : p.1.shape.Idx, p.2 x = G (p.1.emb x)
  reach : ∀ y : (⟨2, ![512, C]⟩ : Shape).Idx, (y 0).val / 32 < K → ∃ p ∈ L, y ∈ p.1.set

theorem rows_nil {C : ℕ} {η : EltTy} (G : (⟨2, ![512, C]⟩ : Shape).Idx → Elt Ideal η) : Rows G 0 [] :=
  ⟨fun _ h => absurd h List.not_mem_nil, fun _ h => absurd h (Nat.not_lt_zero _)⟩

theorem rows_append {C : ℕ} {η : EltTy} {G : (⟨2, ![512, C]⟩ : Shape).Idx → Elt Ideal η} {K : ℕ}
    {L T : List (View.Piece (Elt Ideal) (⟨2, ![512, C]⟩ : Shape) η)} (hL : Pieces G K C L) (hT : Rows G K T) : Rows G (K + 1) (L ++ T) := by
  refine ⟨fun p hp => (List.mem_append.1 hp).elim (hL.agree p) (hT.agree p), fun y hy => ?_⟩
  by_cases h : (y 0).val / 32 = K
  · obtain ⟨p, hp, hm⟩ := hL.reach y h (y 1).isLt
    exact ⟨p, List.mem_append_left _ hp, hm⟩
  · obtain ⟨p, hp, hm⟩ := hT.reach y (by omega)
    exact ⟨p, List.mem_append_right _ hp, hm⟩

theorem rows_read {C : ℕ} {η : EltTy} {G : (⟨2, ![512, C]⟩ : Shape).Idx → Elt Ideal η}
    {L : List (View.Piece (Elt Ideal) (⟨2, ![512, C]⟩ : Shape) η)} (hL : Rows G 16 L)
    (v : View sig .tc .vmem (⟨2, ![512, C]⟩ : Shape) η) (f : BufTy.Contents (Elt Ideal) v.ty) :
    v.read (Elt Ideal) (v.writes (Elt Ideal) f L) = G := by
  funext y
  refine View.read_writes_apply_of_pieces v f G L hL.agree y (hL.reach y ?_)
  have : (y 0).val < 512 := (y 0).isLt
  omega

theorem trips_eq : k0_t1_loop.trips = 16 := by decide +kernel

section Loop

variable (𝒱 : Variants) (c : Dev nD) (bd : Option 𝒱.V) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x4x8192 .bf16) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (arg9 : Memref sig .tc .vmem S512x8192 .bf16) (harg9 : arg9.IsWhole) (k0_h1 : k0_cond1 i = 1#1) (X_arg2 : BufTy.Contents (Elt Ideal) arg2.view.ty)

/-- The loop's stores, after any number of trips. -/
theorem loop_rows (K : ℕ) (hK : K ≤ k0_t1_loop.trips) :
    Rows (C := 8192) (η := .fp8e4m3) (codesBlk (arg2.view.read (Elt Ideal) X_arg2)) K
      (pb_k0_t1 (F := Ideal) 𝒱 c bd i arg2 harg2 arg3 harg3 arg4 harg4 arg5 harg5 arg6 harg6 arg7 harg7 arg8 harg8 arg9 harg9 k0_h1 X_arg2 K).1
    ∧ Rows (C := 64) (η := .f32) (scaleBlk (arg2.view.read (Elt Ideal) X_arg2)) K
      (pb_k0_t1 (F := Ideal) 𝒱 c bd i arg2 harg2 arg3 harg3 arg4 harg4 arg5 harg5 arg6 harg6 arg7 harg7 arg8 harg8 arg9 harg9 k0_h1 X_arg2 K).2.1
    ∧ Rows (C := 8192) (η := .bf16) (xwBlk (arg2.view.read (Elt Ideal) X_arg2)) K
      (pb_k0_t1 (F := Ideal) 𝒱 c bd i arg2 harg2 arg3 harg3 arg4 harg4 arg5 harg5 arg6 harg6 arg7 harg7 arg8 harg8 arg9 harg9 k0_h1 X_arg2 K).2.2 := by
  induction K with
  | zero => exact ⟨rows_nil _, rows_nil _, rows_nil _⟩
  | succ K ih =>
    obtain ⟨h1, h2, h3⟩ := ih (by omega)
    rw [pb_k0_t1_succ 𝒱 c bd i arg2 harg2 arg3 harg3 arg4 harg4 arg5 harg5 arg6 harg6 arg7 harg7 arg8 harg8 arg9 harg9 k0_h1 X_arg2 ⟨K, by omega⟩]
    exact ⟨rows_append (trip_codes 𝒱 c bd i arg2 harg2 arg3 harg3 arg4 harg4 arg5 harg5 arg6 harg6 arg7 harg7 arg8 harg8 arg9 harg9 k0_h1 X_arg2 ⟨K, by omega⟩) h1,
      rows_append (trip_scale 𝒱 c bd i arg2 harg2 arg3 harg3 arg4 harg4 arg5 harg5 arg6 harg6 arg7 harg7 arg8 harg8 arg9 harg9 k0_h1 X_arg2 ⟨K, by omega⟩) h2,
      rows_append (trip_xw 𝒱 c bd i arg2 harg2 arg3 harg3 arg4 harg4 arg5 harg5 arg6 harg6 arg7 harg7 arg8 harg8 arg9 harg9 k0_h1 X_arg2 ⟨K, by omega⟩) h3⟩

end Loop

end Cert.KernelIdeal.Slab

end
-- ==== Proof.Tile.lean ====
/- The weights rescaled and the tile of the product, from the pieces the body stores. -/
module

public import proofs.«01_k».proof.Proof.Trip
public import proofs.«01_k».proof.Proof.Gen.KernelIdeal.Frame

@[expose] public section

set_option maxRecDepth 16384

noncomputable section

namespace Cert.KernelIdeal.Slab

open Cert.KernelIdeal Cert.KernelIdeal.Gen Cert.Scale
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The rescaled weights of one block: each row times the scale row of its band of 128 rows. -/
def wwBlk (W : S512x8192.Idx → EReal) (S : S1x4x8192.Idx → EReal) : S512x8192.Idx → EReal := fun y =>
  W y * S (ix3 0 ⟨(y 0).val / 128, by have : (y 0).val < 512 := (y 0).isLt; omega⟩ (y 1))

/-- The tile of the product: rows of `A` against rows of `B`. -/
def outBlk (A B : S512x8192.Idx → EReal) : S512x512.Idx → EReal := fun y => ∑ k : Fin 8192, A (ix2 (y 0) k) * B (ix2 (y 1) k)

theorem ww_apply (W : FVec Ideal S128x8192 .fp8e4m3) (S : FVec Ideal S1x1x8192 .bf16) (r : Fin 128) (k : Fin 8192) :
    (k0_pay204 (F := Ideal) W S (ix2 r k) : EReal) = (W (ix2 r k) : EReal) * (S (ix3 0 0 k) : EReal) := by
  pointwise [k0_pay204]

theorem out_apply (A B : FVec Ideal S512x8192 .bf16) : k0_pay3 (F := Ideal) A B = outBlk A B := by
  funext y
  obtain ⟨p, q, rfl⟩ : ∃ p q, y = ix2 p q := ⟨y 0, y 1, by funext a; match a with | 0 => rfl | 1 => rfl⟩
  have : (k0_pay3 (F := Ideal) A B (ix2 p q) : EReal) = Ideal.ofBits .f32 0x00000000#32 + ∑ k : Fin 8192, (A (ix2 p k) : EReal) * (B (ix2 q k) : EReal) := by
    pointwise [k0_pay3]
  rw [this, ofBits_zero, zero_add]
  rfl

/-- The stored band `b` of the rescaled weights is `wwBlk` there. -/
theorem ww_piece (W : S512x8192.Idx → EReal) (S : S1x4x8192.Idx → EReal) (b : ℕ) (hb : b < 4) {o : Fin 2 → ℕ} {o' : Fin 3 → ℕ}
    (ho : o = ![128 * b, 0]) (ho' : o' = ![0, b, 0]) (h : ∀ a, o a + S128x8192.size a ≤ S512x8192.size a)
    (h' : ∀ a, o' a + S1x1x8192.size a ≤ S1x4x8192.size a) (x : S128x8192.Idx) :
    k0_pay204 (F := Ideal) (View.ld (Val := Elt Ideal) (e' := .fp8e4m3) W (Rect.unit (s := S512x8192) o S128x8192.size h))
      (View.ld (Val := Elt Ideal) (e' := .bf16) S (Rect.unit (s := S1x4x8192) o' S1x1x8192.size h')) x
      = wwBlk W S ((Rect.unit (s := S512x8192) o S128x8192.size h).emb x) := by
  subst ho ho'
  obtain ⟨p, q, rfl⟩ : ∃ p q, x = ix2 p q := ⟨x 0, x 1, by funext a; match a with | 0 => rfl | 1 => rfl⟩
  rw [ww_apply]
  unfold wwBlk
  refine congrArg₂ (fun s t : EReal => s * t) rfl (congrArg S ?_)
  funext a
  apply Fin.ext
  match a with
  | 0 => rfl
  | 1 => exact (show b + 1 * 0 = (128 * b + 1 * p.val) / 128 by have := p.isLt; omega)
  | 2 => rfl

theorem ww_read (W : S512x8192.Idx → EReal) (S : S1x4x8192.Idx → EReal) (v : View sig .tc .vmem S512x8192 .bf16)
    (h0 h1 h2 h3 h0' h1' h2' h3' hw) (P0 P1 P2 P3 : S128x8192.Idx → EReal)
    (e0 : P0 = k0_pay204 (F := Ideal) (View.ld (Val := Elt Ideal) (e' := .fp8e4m3) W (Rect.unit (s := S512x8192) ![0, 0] S128x8192.size h0)) (View.ld (Val := Elt Ideal) (e' := .bf16) S (Rect.unit (s := S1x4x8192) ![0, 0, 0] S1x1x8192.size h0')))
    (e1 : P1 = k0_pay204 (F := Ideal) (View.ld (Val := Elt Ideal) (e' := .fp8e4m3) W (Rect.unit (s := S512x8192) ![128, 0] S128x8192.size h1)) (View.ld (Val := Elt Ideal) (e' := .bf16) S (Rect.unit (s := S1x4x8192) ![0, 1, 0] S1x1x8192.size h1')))
    (e2 : P2 = k0_pay204 (F := Ideal) (View.ld (Val := Elt Ideal) (e' := .fp8e4m3) W (Rect.unit (s := S512x8192) ![256, 0] S128x8192.size h2)) (View.ld (Val := Elt Ideal) (e' := .bf16) S (Rect.unit (s := S1x4x8192) ![0, 2, 0] S1x1x8192.size h2')))
    (e3 : P3 = k0_pay204 (F := Ideal) (View.ld (Val := Elt Ideal) (e' := .fp8e4m3) W (Rect.unit (s := S512x8192) ![384, 0] S128x8192.size h3)) (View.ld (Val := Elt Ideal) (e' := .bf16) S (Rect.unit (s := S1x4x8192) ![0, 3, 0] S1x1x8192.size h3'))) :
    v.readCov (Val := Elt Ideal) [⟨Rect.unit (s := S512x8192) ![384, 0] S128x8192.size h3, P3⟩, ⟨Rect.unit (s := S512x8192) ![256, 0] S128x8192.size h2, P2⟩,
        ⟨Rect.unit (s := S512x8192) ![128, 0] S128x8192.size h1, P1⟩, ⟨Rect.unit (s := S512x8192) ![0, 0] S128x8192.size h0, P0⟩]
      (Rect.unit (s := S512x8192) ![0, 0] S512x8192.size hw).toLoadRect = wwBlk W S := by
  have hcov : ∀ y : S512x8192.Idx, ∃ p ∈ ([⟨Rect.unit (s := S512x8192) ![384, 0] S128x8192.size h3, P3⟩, ⟨Rect.unit (s := S512x8192) ![256, 0] S128x8192.size h2, P2⟩,
        ⟨Rect.unit (s := S512x8192) ![128, 0] S128x8192.size h1, P1⟩, ⟨Rect.unit (s := S512x8192) ![0, 0] S128x8192.size h0, P0⟩] : List (View.Piece (Elt Ideal) S512x8192 .bf16)), y ∈ p.1.set := by
    intro y
    have hy0 : (y 0).val < 512 := (y 0).isLt
    have hy1 : (y 1).val < 8192 := (y 1).isLt
    have key : ∀ (b : ℕ) (h : ∀ a, (![128 * b, 0] : Fin 2 → ℕ) a + S128x8192.size a ≤ S512x8192.size a), 128 * b ≤ (y 0).val → (y 0).val < 128 * b + 128 →
        y ∈ (Rect.unit (s := S512x8192) ![128 * b, 0] S128x8192.size h).set := fun b h ha hb =>
      (Rect.mem_set_unit (inb := h)).2 fun a => match a with
        | 0 => ⟨ha, hb⟩
        | 1 => ⟨Nat.zero_le _, show (y 1).val < 0 + 8192 by omega⟩
    by_cases c3 : 384 ≤ (y 0).val
    · exact ⟨_, List.mem_cons_self, key 3 h3 c3 (by omega)⟩
    by_cases c2 : 256 ≤ (y 0).val
    · exact ⟨_, List.mem_cons_of_mem _ List.mem_cons_self, key 2 h2 c2 (by omega)⟩
    by_cases c1 : 128 ≤ (y 0).val
    · exact ⟨_, List.mem_cons_of_mem _ (List.mem_cons_of_mem _ List.mem_cons_self), key 1 h1 c1 (by omega)⟩
    · exact ⟨_, List.mem_cons_of_mem _ (List.mem_cons_of_mem _ (List.mem_cons_of_mem _ List.mem_cons_self)), key 0 h0 (by omega) (by omega)⟩
  rw [View.readCov_eq_canon_ld _ _ _ hcov, View.ld_unit_zero (by funext a; match a with | 0 => rfl | 1 => rfl)]
  funext y
  refine View.canon_apply_of_pieces (Val := Elt Ideal) (e := .bf16) (wwBlk W S) _ ?_ y (hcov y)
  intro p hp
  simp only [List.mem_cons, List.not_mem_nil, or_false] at hp
  subst e0 e1 e2 e3
  rcases hp with rfl | rfl | rfl | rfl
  · exact fun x => ww_piece W S 3 (by omega) rfl rfl h3 h3' x
  · exact fun x => ww_piece W S 2 (by omega) rfl rfl h2 h2' x
  · exact fun x => ww_piece W S 1 (by omega) rfl rfl h1 h1' x
  · exact fun x => ww_piece W S 0 (by omega) rfl rfl h0 h0' x

/-- A single store over the whole tile leaves its payload. -/
theorem out_read (v : View sig .tc .vmem S512x512 .bf16) (f : BufTy.Contents (Elt Ideal) v.ty) (h) (P : S512x512.Idx → EReal) :
    v.read (Elt Ideal) (v.writes (Elt Ideal) f [⟨Rect.unit (s := S512x512) ![0, 0] S512x512.size h, P⟩]) = P := by
  funext y
  have hz : ∀ x : S512x512.Idx, (Rect.unit (s := S512x512) ![0, 0] S512x512.size h).emb x = x := fun x => by
    funext a; apply Fin.ext
    match a with
    | 0 => exact (show 0 + 1 * (x 0).val = (x 0).val by omega)
    | 1 => exact (show 0 + 1 * (x 1).val = (x 1).val by omega)
  refine View.read_writes_apply_of_pieces v f P _ ?_ y ⟨_, List.mem_cons_self, (Rect.mem_set_unit (inb := h)).2 fun a => ?_⟩
  · intro p hp
    obtain rfl := List.mem_singleton.1 hp
    exact fun x => congrArg P (hz x).symm
  · match a with
    | 0 => exact ⟨Nat.zero_le _, by simpa using (y 0).isLt⟩
    | 1 => exact ⟨Nat.zero_le _, by simpa using (y 1).isLt⟩

end Cert.KernelIdeal.Slab

end
-- ==== Proof.Body.lean ====
/- The kernel's body at one grid point, at the exact instance, with what it leaves named. -/
module

public import proofs.«01_k».proof.Proof.Tile
public import proofs.«01_k».proof.Proof.Gen.KernelIdeal.Frame

@[expose] public section

set_option maxRecDepth 16384

noncomputable section

namespace Cert.KernelIdeal.Slab

open Cert.KernelIdeal Cert.KernelIdeal.Gen Cert.Scale
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem ww_load (x1 : S512x8192.Idx → EReal) (x2 : S1x4x8192.Idx → EReal) {a3 : Memref sig .tc .vmem S512x8192 .fp8e4m3} (h3 : a3.IsWhole)
    {a4 : Memref sig .tc .vmem S1x4x8192 .bf16} (h4 : a4.IsWhole) {o : Fin 2 → ℕ} {o' : Fin 3 → ℕ} (h : ∀ a, o a + S128x8192.size a ≤ S512x8192.size a)
    (h' : ∀ a, o' a + S1x1x8192.size a ≤ S1x4x8192.size a) :
    k0_pay204 (F := Ideal) (a3.view.readAt (Elt Ideal) (Rect.unit (s := S512x8192) o S128x8192.size h).toLoadRect (h3.unread x1))
        (a4.view.readAt (Elt Ideal) (Rect.unit (s := S1x4x8192) o' S1x1x8192.size h').toLoadRect (h4.unread x2))
      = k0_pay204 (F := Ideal) (View.ld (Val := Elt Ideal) (e' := .fp8e4m3) x1 (Rect.unit (s := S512x8192) o S128x8192.size h))
        (View.ld (Val := Elt Ideal) (e' := .bf16) x2 (Rect.unit (s := S1x4x8192) o' S1x1x8192.size h')) := by
  rw [View.readAt_eq_ld, View.readAt_eq_ld, h3.read_unread, h4.read_unread]

theorem rows_codes (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x4x8192 .bf16) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (arg9 : Memref sig .tc .vmem S512x8192 .bf16) (harg9 : arg9.IsWhole) (hc0 : k0_cond1 i = 1#1) (x0 : Vec Ideal S512x8192 .bf16) (f : BufTy.Contents (Elt Ideal) arg6.view.ty) :
    arg6.view.read (Elt Ideal) (arg6.view.writes (Elt Ideal) f (pb_k0_t1 Variants.none c none i arg2 harg2 arg3 harg3 arg4 harg4 arg5 harg5 arg6 harg6 arg7 harg7 arg8 harg8 arg9 harg9 hc0 (harg2.unread x0) (Scf.trips k0_t1_loop.lb k0_t1_loop.ub k0_t1_loop.st)).1) = codesBlk x0 := by
  have h := loop_rows Variants.none c none i arg2 harg2 arg3 harg3 arg4 harg4 arg5 harg5 arg6 harg6 arg7 harg7 arg8 harg8 arg9 harg9 hc0 (harg2.unread x0) k0_t1_loop.trips le_rfl
  rw [harg2.read_unread, trips_eq] at h
  rw [show Scf.trips k0_t1_loop.lb k0_t1_loop.ub k0_t1_loop.st = 16 from trips_eq]
  exact rows_read (C := 8192) (η := .fp8e4m3) h.1 arg6.view f

theorem rows_scale (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x4x8192 .bf16) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (arg9 : Memref sig .tc .vmem S512x8192 .bf16) (harg9 : arg9.IsWhole) (hc0 : k0_cond1 i = 1#1) (x0 : Vec Ideal S512x8192 .bf16) (f : BufTy.Contents (Elt Ideal) arg7.view.ty) :
    arg7.view.read (Elt Ideal) (arg7.view.writes (Elt Ideal) f (pb_k0_t1 Variants.none c none i arg2 harg2 arg3 harg3 arg4 harg4 arg5 harg5 arg6 harg6 arg7 harg7 arg8 harg8 arg9 harg9 hc0 (harg2.unread x0) (Scf.trips k0_t1_loop.lb k0_t1_loop.ub k0_t1_loop.st)).2.1) = scaleBlk x0 := by
  have h := loop_rows Variants.none c none i arg2 harg2 arg3 harg3 arg4 harg4 arg5 harg5 arg6 harg6 arg7 harg7 arg8 harg8 arg9 harg9 hc0 (harg2.unread x0) k0_t1_loop.trips le_rfl
  rw [harg2.read_unread, trips_eq] at h
  rw [show Scf.trips k0_t1_loop.lb k0_t1_loop.ub k0_t1_loop.st = 16 from trips_eq]
  exact rows_read (C := 64) (η := .f32) h.2.1 arg7.view f

theorem rows_xw (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x4x8192 .bf16) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (arg9 : Memref sig .tc .vmem S512x8192 .bf16) (harg9 : arg9.IsWhole) (hc0 : k0_cond1 i = 1#1) (x0 : Vec Ideal S512x8192 .bf16) (f : BufTy.Contents (Elt Ideal) arg8.view.ty) :
    arg8.view.read (Elt Ideal) (arg8.view.writes (Elt Ideal) f (pb_k0_t1 Variants.none c none i arg2 harg2 arg3 harg3 arg4 harg4 arg5 harg5 arg6 harg6 arg7 harg7 arg8 harg8 arg9 harg9 hc0 (harg2.unread x0) (Scf.trips k0_t1_loop.lb k0_t1_loop.ub k0_t1_loop.st)).2.2) = xwBlk x0 := by
  have h := loop_rows Variants.none c none i arg2 harg2 arg3 harg3 arg4 harg4 arg5 harg5 arg6 harg6 arg7 harg7 arg8 harg8 arg9 harg9 hc0 (harg2.unread x0) k0_t1_loop.trips le_rfl
  rw [harg2.read_unread, trips_eq] at h
  rw [show Scf.trips k0_t1_loop.lb k0_t1_loop.ub k0_t1_loop.st = 16 from trips_eq]
  exact rows_read (C := 8192) (η := .bf16) h.2.2 arg8.view f

set_option maxHeartbeats 1000000 in
/-- The body at the first column of a row of tiles: it quantises the rows, keeps them rescaled, and stores a tile. -/
theorem kernelRun0_A (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x4x8192 .bf16) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (arg9 : Memref sig .tc .vmem S512x8192 .bf16) (harg9 : arg9.IsWhole) (hc0 : k0_cond1 i = 1#1)
    (x0 : Vec Ideal S512x8192 .bf16) (x1 : Vec Ideal S512x8192 .fp8e4m3) (x2 : Vec Ideal S1x4x8192 .bf16) :
      ∀ (E : Set ℕ) (K : PUnit → sProp (MT nD τ sig Unit (Elt Ideal) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare (outBlk (xwBlk x0) (wwBlk x1 x2)) ∗ owns (c : Thread nD τ) arg6 fullShare (codesBlk x0) ∗ owns (c : Thread nD τ) arg7 fullShare (scaleBlk x0) ∗ owns (c : Thread nD τ) arg8 fullShare (xwBlk x0) ∗ (∃ d, owns (c : Thread nD τ) arg9 fullShare d)) -∗ K ⟨⟩))
          ⊢ wp frame (wpE (defs₀ (F := Ideal)) Variants.none c none) E (cc0_mla_up_proj i arg2 harg2 arg3 harg3 arg4 harg4 arg5 harg5 arg6 harg6 arg7 harg7 arg8 harg8 arg9 harg9) K := by
    intro E K
    simp only [cc0_mla_up_proj_eq_skeleton]; unfold cc0_mla_up_proj_skel
    simp only [k0_part51_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      have e8 : kernelRun0_A.sl.v43 c i arg2 harg2 arg3 harg3 arg4 harg4 arg5 harg5 arg6 harg6 arg7 harg7 arg8 harg8 arg9 harg9 hc0 x0 fs0 = xwBlk x0 := by
        unfold kernelRun0_A.sl.v43
        rw [View.readAt_eq_ld]
        refine (View.ld_unit_zero (by funext a; match a with | 0 => rfl | 1 => rfl) _ _).trans ?_
        exact rows_xw c i arg2 harg2 arg3 harg3 arg4 harg4 arg5 harg5 arg6 harg6 arg7 harg7 arg8 harg8 arg9 harg9 hc0 x0 fs0
      have e9 : kernelRun0_A.sl.v44 c arg3 harg3 arg4 harg4 arg9 x1 x2 = wwBlk x1 x2 := by
        unfold kernelRun0_A.sl.v44 kernelRun0_A.sl.HS1_4 kernelRun0_A.sl.r
        exact ww_read x1 x2 arg9.view _ _ _ _ _ _ inb_S1x4x8192_S1x1x8192_0_2_0 _ _ _ _ _ _ (ww_load x1 x2 harg3 harg4 _ _) (ww_load x1 x2 harg3 harg4 _ _) (ww_load x1 x2 harg3 harg4 _ _) (ww_load x1 x2 harg3 harg4 _ _)
      rw [e8, e9]
      exact (out_read _ _ _ _).trans (out_apply _ _)
    isplitl [H4]
    · iexists _; isplitr; swap; · iexact H4
      ipureintro; exact rows_codes c i arg2 harg2 arg3 harg3 arg4 harg4 arg5 harg5 arg6 harg6 arg7 harg7 arg8 harg8 arg9 harg9 hc0 x0 f4
    isplitl [H5]
    · iexists _; isplitr; swap; · iexact H5
      ipureintro; exact rows_scale c i arg2 harg2 arg3 harg3 arg4 harg4 arg5 harg5 arg6 harg6 arg7 harg7 arg8 harg8 arg9 harg9 hc0 x0 f5
    isplitl [HS0]
    · iexists _; isplitr; swap; · iexact HS0
      ipureintro; exact rows_xw c i arg2 harg2 arg3 harg3 arg4 harg4 arg5 harg5 arg6 harg6 arg7 harg7 arg8 harg8 arg9 harg9 hc0 x0 fs0
    iexists _, _; isplitr; swap; · iexact HS1
    ipureintro; rfl

set_option maxHeartbeats 1000000 in
/-- The body at a later column: it stores a tile from the rows kept rescaled. -/
theorem kernelRun0_B (c : Dev nD) (i : grid0.Coords) (arg2 : Memref sig .tc .vmem S512x8192 .bf16) (harg2 : arg2.IsWhole) (arg3 : Memref sig .tc .vmem S512x8192 .fp8e4m3) (harg3 : arg3.IsWhole) (arg4 : Memref sig .tc .vmem S1x4x8192 .bf16) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (arg9 : Memref sig .tc .vmem S512x8192 .bf16) (harg9 : arg9.IsWhole) (hc0 : ¬ k0_cond1 i = 1#1)
    (x0 : Vec Ideal S512x8192 .bf16) (x1 : Vec Ideal S512x8192 .fp8e4m3) (x2 : Vec Ideal S1x4x8192 .bf16) (xs0 : Vec Ideal S512x8192 .bf16) :
      ∀ (E : Set ℕ) (K : PUnit → sProp (MT nD τ sig Unit (Elt Ideal) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare (outBlk xs0 (wwBlk x1 x2)) ∗ owns (c : Thread nD τ) arg8 fullShare xs0 ∗ (∃ d, owns (c : Thread nD τ) arg9 fullShare d)) -∗ K ⟨⟩))
          ⊢ wp frame (wpE (defs₀ (F := Ideal)) Variants.none c none) E (cc0_mla_up_proj i arg2 harg2 arg3 harg3 arg4 harg4 arg5 harg5 arg6 harg6 arg7 harg7 arg8 harg8 arg9 harg9) K := by
    intro E K
    simp only [cc0_mla_up_proj_eq_skeleton]; unfold cc0_mla_up_proj_skel
    simp only [k0_part51_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      have e8 : View.readAt (Elt Ideal) arg8.view (Rect.unit (s := S512x8192) ![0, 0] ![512, 8192] inb_S512x8192_S512x8192_0_0).toLoadRect (harg8.unread xs0) = xs0 := by
        rw [View.readAt_eq_ld, harg8.read_unread]
        exact View.ld_unit_zero (by funext a; match a with | 0 => rfl | 1 => rfl) _ _
      have e9 : kernelRun0_B.sl.v44 c arg3 harg3 arg4 harg4 arg9 x1 x2 = wwBlk x1 x2 := by
        unfold kernelRun0_B.sl.v44 kernelRun0_B.sl.HS1_4 kernelRun0_B.sl.r
        exact ww_read x1 x2 arg9.view _ _ _ _ _ _ inb_S1x4x8192_S1x1x8192_0_2_0 _ _ _ _ _ _ (ww_load x1 x2 harg3 harg4 _ _) (ww_load x1 x2 harg3 harg4 _ _) (ww_load x1 x2 harg3 harg4 _ _) (ww_load x1 x2 harg3 harg4 _ _)
      rw [e8, e9]
      exact (out_read _ _ _ _).trans (out_apply _ _)
    isplitl [HS0]
    · iexists _; isplitr; · ipureintro; exact harg8.read_unread _
      iexact HS0
    iexists _, _; isplitr; swap; · iexact HS1
    ipureintro; rfl

end Cert.KernelIdeal.Slab

end
-- ==== Proof.Data.lean ====
/- The run of the kernel's program: what each grid point finds and leaves, and what the arrays end holding. -/
module

public import proofs.«01_k».proof.Proof.Body
public import proofs.«01_k».proof.Proof.Gen.KernelIdeal.Frame

@[expose] public section

set_option maxRecDepth 16384

noncomputable section

namespace Cert.KernelIdeal.Slab

open Cert.KernelIdeal Cert.KernelIdeal.Gen Cert.Scale
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The first column of a row of tiles is every eighth point. -/
theorem first_iff : ∀ t : Fin cfg0.N, k0_cond1 (grid0.coords t) = 1#1 ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [k0_cond1, e0, e1]
    word_cmp
   : ∀ t : Fin grid0.N, k0_cond1 (grid0.coords t) = 1#1 ↔ t.val % 8 = 0)

theorem live4 (t : Fin cfg0.N) (h : t.val % 8 = 0) : cfg0.idle 4 (grid0.coords t) = false := by
  show (!(k0_cond1 (grid0.coords t) == 1#1)) = false
  rw [(first_iff t).mpr h]; rfl
theorem live5 (t : Fin cfg0.N) (h : t.val % 8 = 0) : cfg0.idle 5 (grid0.coords t) = false := live4 t h
theorem idle4 (t : Fin cfg0.N) (h : t.val % 8 ≠ 0) : cfg0.idle 4 (grid0.coords t) = true := by
  show (!(k0_cond1 (grid0.coords t) == 1#1)) = true
  rw [beq_eq_false_iff_ne.mpr fun e => h ((first_iff t).mp e)]; rfl
theorem idle5 (t : Fin cfg0.N) (h : t.val % 8 ≠ 0) : cfg0.idle 5 (grid0.coords t) = true := idle4 t h

theorem row_lt (t : Fin cfg0.N) (r : Fin 512) : 512 * (t.val / 8) + r.val < 8192 := by
  have ht : t.val < 128 := Nat.lt_of_lt_of_eq t.isLt N_0
  have := r.isLt; omega
theorem col_lt (t : Fin cfg0.N) (r : Fin 512) : 512 * (t.val % 8) + r.val < 4096 := by
  have := r.isLt; omega

theorem coords_fst (t : Fin cfg0.N) : (grid0.coords t 0).val = t.val / 8 := by
  have ht : t.val < 128 := Nat.lt_of_lt_of_eq t.isLt N_0
  have e0 : (grid0.coords t 0).val = t.val / 8 % 16 := Pipeline.Grid.coords_val t 0 (by decide) rfl
  omega
theorem coords_snd (t : Fin cfg0.N) : (grid0.coords t 1).val = t.val % 8 := by
  have e1 : (grid0.coords t 1).val = t.val / 1 % 8 := Pipeline.Grid.coords_val t 1 (by decide) rfl
  omega

theorem word_fst (t : Fin cfg0.N) : (BitVec.ofNat 32 (grid0.coords t 0).val).toNat = t.val / 8 := by
  have ht : t.val < 128 := Nat.lt_of_lt_of_eq t.isLt N_0
  rw [coords_fst, BitVec.toNat_ofNat]; omega
theorem word_snd (t : Fin cfg0.N) : (BitVec.ofNat 32 (grid0.coords t 1).val).toNat = t.val % 8 := by
  rw [coords_snd, BitVec.toNat_ofNat]; omega

/-- The block of rows a point quantises. -/
theorem iblk0_apply (c : Dev nD) (t : Fin cfg0.N) (y : S512x8192.Idx) :
    iblk m c 0 t y = V m c main_v4 (ix2 ⟨512 * (t.val / 8) + (y 0).val, row_lt t (y 0)⟩ (y 1)) := by
  refine congrArg (V m c main_v4) (funext fun a => Fin.ext ?_)
  match a with
  | 0 => exact (show (BitVec.ofNat 32 (grid0.coords t 0).val).toNat * 512 + 1 * (y 0).val = 512 * (t.val / 8) + (y 0).val by rw [word_fst]; omega)
  | 1 => exact (show 0 * 8192 + 1 * (y 1).val = (y 1).val by omega)

/-- The block of weights. -/
theorem iblk1_apply (c : Dev nD) (t : Fin cfg0.N) (y : S512x8192.Idx) :
    iblk m c 1 t y = V m c main_v5 (ix2 ⟨512 * (t.val % 8) + (y 0).val, col_lt t (y 0)⟩ (y 1)) := by
  refine congrArg (V m c main_v5) (funext fun a => Fin.ext ?_)
  match a with
  | 0 => exact (show (BitVec.ofNat 32 (grid0.coords t 1).val).toNat * 512 + 1 * (y 0).val = 512 * (t.val % 8) + (y 0).val by rw [word_snd]; omega)
  | 1 => exact (show 0 * 8192 + 1 * (y 1).val = (y 1).val by omega)

/-- The block of weight scales. -/
theorem iblk2_apply (c : Dev nD) (t : Fin cfg0.N) (y : S1x4x8192.Idx) :
    iblk m c 2 t y = V m c main_v3 (ix3 ⟨t.val % 8, Nat.mod_lt _ (by omega)⟩ (y 1) (y 2)) := by
  have h0 : (y 0).val < 1 := (y 0).isLt
  refine congrArg (V m c main_v3) (funext fun a => Fin.ext ?_)
  match a with
  | 0 => exact (show (BitVec.ofNat 32 (grid0.coords t 1).val).toNat * 1 + 1 * (y 0).val = t.val % 8 by rw [word_snd]; omega)
  | 1 => exact (show 0 * 4 + 1 * (y 1).val = (y 1).val by omega)
  | 2 => exact (show 0 * 8192 + 1 * (y 2).val = (y 2).val by omega)

/-- Points of one row of tiles see the same rows. -/
theorem iblk0_row (c : Dev nD) {t t' : Fin cfg0.N} (h : t.val / 8 = t'.val / 8) : iblk m c 0 t = iblk m c 0 t' := by
  funext y
  refine (iblk0_apply m c t y).trans (Eq.trans ?_ (iblk0_apply m c t' y).symm)
  refine congrArg (V m c main_v4) (funext fun a => Fin.ext ?_)
  match a with
  | 0 => exact (show 512 * (t.val / 8) + (y 0).val = 512 * (t'.val / 8) + (y 0).val by rw [h])
  | 1 => rfl

/-- The proof data of the pipeline: what each window's buffer holds after each point, and, in the invariant, that between the
    points of one row of tiles the first scratch buffer holds those rows, quantised and rescaled. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (xwBlk (iblk m c 0 t)) (wwBlk (iblk m c 1 t) (iblk m c 2 t))
    | ⟨4, _⟩ => codesBlk (iblk m c 0 t)
    | ⟨5, _⟩ => scaleBlk (iblk m c 0 t)
  Φ t := iprop(iprop((∃ d, ⌜∀ t' : Fin cfg0.N, t'.val = t.val → t'.val % 8 ≠ 0 → d = xwBlk (iblk m c 0 t')⌝
      ∗ owns (c : Thread nD τ) (Memref.whole cc0_scratch0 : Memref sig .tc .vmem S512x8192 .bf16) fullShare d)
    ∗ (∃ d, owns (c : Thread nD τ) (Memref.whole cc0_scratch1 : Memref sig .tc .vmem S512x8192 .bf16) fullShare d)) ∗ (∃ r, prngReg c r))
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlk (xwBlk (iblk m c 0 t)) (wwBlk (iblk m c 1 t) (iblk m c 2 t)) := by dsimp only [dats]
theorem after4 (c : Dev nD) (t : Fin cfg0.N) : (dats m 0 c).after 4 t = codesBlk (iblk m c 0 t) := by dsimp only [dats]
theorem after5 (c : Dev nD) (t : Fin cfg0.N) : (dats m 0 c).after 5 t = scaleBlk (iblk m c 0 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem not_flush4 (t : Fin cfg0.N) (h : t.val % 8 ≠ 7) : (cfg0.win 4).flush t = false :=
  Bool.eq_false_iff.mpr fun e => h ((flush0_4 t).mp e)
theorem not_flush5 (t : Fin cfg0.N) (h : t.val % 8 ≠ 7) : (cfg0.win 5).flush t = false :=
  Bool.eq_false_iff.mpr fun e => h ((flush0_5 t).mp e)

/-- Away from the first column, the codes' buffer still holds what the first column stored. -/
theorem before4 (c : Dev nD) : ∀ (n : ℕ) (t : Fin cfg0.N), t.val = n → t.val % 8 ≠ 0 → ∀ d, (dats m 0 c).before 4 t d = codesBlk (iblk m c 0 t)
  | 0, t, ht, h, d => absurd (by omega) h
  | n + 1, t, ht, h, d => by
    rw [(dats m 0 c).before_of_pos 4 t (by omega) ((cfg0.win 4).fetch_out rfl t), not_flush4 _ (by simp only; omega), if_neg Bool.false_ne_true]
    have hrow : iblk m c 0 ⟨t.val - 1, Nat.lt_of_le_of_lt (Nat.sub_le _ _) t.isLt⟩ = iblk m c 0 t := iblk0_row m c (by simp only; omega)
    unfold Dat.left
    by_cases h0 : (t.val - 1) % 8 = 0
    · rw [live4 ⟨t.val - 1, Nat.lt_of_le_of_lt (Nat.sub_le _ _) t.isLt⟩ h0]
      show (dats m 0 c).after 4 _ = _
      rw [after4, hrow]
    · rw [idle4 ⟨t.val - 1, Nat.lt_of_le_of_lt (Nat.sub_le _ _) t.isLt⟩ h0]
      exact (before4 c n _ (by simp only; omega) h0 d).trans (by rw [hrow])

/-- And the scales' buffer. -/
theorem before5 (c : Dev nD) : ∀ (n : ℕ) (t : Fin cfg0.N), t.val = n → t.val % 8 ≠ 0 → ∀ d, (dats m 0 c).before 5 t d = scaleBlk (iblk m c 0 t)
  | 0, t, ht, h, d => absurd (by omega) h
  | n + 1, t, ht, h, d => by
    rw [(dats m 0 c).before_of_pos 5 t (by omega) ((cfg0.win 5).fetch_out rfl t), not_flush5 _ (by simp only; omega), if_neg Bool.false_ne_true]
    have hrow : iblk m c 0 ⟨t.val - 1, Nat.lt_of_le_of_lt (Nat.sub_le _ _) t.isLt⟩ = iblk m c 0 t := iblk0_row m c (by simp only; omega)
    unfold Dat.left
    by_cases h0 : (t.val - 1) % 8 = 0
    · rw [live5 ⟨t.val - 1, Nat.lt_of_le_of_lt (Nat.sub_le _ _) t.isLt⟩ h0]
      show (dats m 0 c).after 5 _ = _
      rw [after5, hrow]
    · rw [idle5 ⟨t.val - 1, Nat.lt_of_le_of_lt (Nat.sub_le _ _) t.isLt⟩ h0]
      exact (before5 c n _ (by simp only; omega) h0 d).trans (by rw [hrow])

end Cert.KernelIdeal.Slab

end
-- ==== Proof.Arrays.lean ====
/- The arrays the kernel leaves, each one function of the arrays it is given. -/
module

public import proofs.«01_k».proof.Proof.Data
public import proofs.«01_k».proof.Proof.Gen.KernelIdeal.Frame

@[expose] public section

set_option maxRecDepth 16384

noncomputable section

namespace Cert.KernelIdeal.Slab

open Cert.KernelIdeal Cert.KernelIdeal.Gen Cert.Scale
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The largest magnitude of group `g` of row `R`. -/
def rowMax (X : S8192x8192.Idx → EReal) (R : Fin 8192) (g : Fin 64) : EReal :=
  Finset.univ.fold max (Ideal.ofBits .f32 0xFF800000#32) fun l : Fin 128 =>
    FloatOps.absf (F := Ideal) (φ := .f32) (X (ix2 R ⟨128 * g.val + l.val, by have := g.isLt; have := l.isLt; omega⟩))

/-- The group a column of an 8192-column array lies in. -/
def grpA (k : Fin 8192) : Fin 64 := ⟨k.val / 128, by have := k.isLt; omega⟩

def scaleArr (X : S8192x8192.Idx → EReal) : S8192x64.Idx → EReal := fun y => scaleK (rowMax X (y 0) (y 1))

def codesArr (X : S8192x8192.Idx → EReal) : S8192x8192.Idx → EReal := fun y =>
  min (Ideal.ofBits .f32 0x43E00000#32) (max (Ideal.ofBits .f32 0xC3E00000#32) (X y * invK (rowMax X (y 0) (grpA (y 1)))))

def xwArr (X : S8192x8192.Idx → EReal) : S8192x8192.Idx → EReal := fun y =>
  codesArr X y * scaleK (rowMax X (y 0) (grpA (y 1)))

def outArr (X : S8192x8192.Idx → EReal) (W : S4096x8192.Idx → EReal) (S : S8x4x8192.Idx → EReal) : S8192x4096.Idx → EReal := fun y =>
  ∑ k : Fin 8192, xwArr X (ix2 (y 0) k) * (W (ix2 (y 1) k) *
    S (ix3 ⟨(y 1).val / 512, by have : (y 1).val < 4096 := (y 1).isLt; omega⟩ ⟨(y 1).val % 512 / 128, by omega⟩ k))

theorem amax_iblk (c : Dev nD) (t : Fin cfg0.N) (r : Fin 512) (g : Fin 64) :
    amaxBlk (iblk m c 0 t) r g = rowMax (V m c main_v4) ⟨512 * (t.val / 8) + r.val, row_lt t r⟩ g := by
  unfold amaxBlk rowMax
  refine congrArg (Finset.fold max _ · _) (funext fun l => ?_)
  exact congrArg _ (iblk0_apply m c t _)

theorem scale_iblk (c : Dev nD) (t : Fin cfg0.N) (y : S512x64.Idx) :
    scaleBlk (iblk m c 0 t) y = scaleArr (V m c main_v4) (ix2 ⟨512 * (t.val / 8) + (y 0).val, row_lt t (y 0)⟩ (y 1)) :=
  congrArg scaleK (amax_iblk m c t (y 0) (y 1))

theorem codes_iblk (c : Dev nD) (t : Fin cfg0.N) (y : S512x8192.Idx) :
    codesBlk (iblk m c 0 t) y = codesArr (V m c main_v4) (ix2 ⟨512 * (t.val / 8) + (y 0).val, row_lt t (y 0)⟩ (y 1)) := by
  unfold codesBlk codesArr
  rw [amax_iblk m c t (y 0) (grp y), show iblk m c 0 t y = _ from iblk0_apply m c t y]
  rfl

theorem xw_iblk (c : Dev nD) (t : Fin cfg0.N) (y : S512x8192.Idx) :
    xwBlk (iblk m c 0 t) y = xwArr (V m c main_v4) (ix2 ⟨512 * (t.val / 8) + (y 0).val, row_lt t (y 0)⟩ (y 1)) := by
  unfold xwBlk xwArr
  rw [amax_iblk m c t (y 0) (grp y), codes_iblk]
  rfl

theorem out_iblk (c : Dev nD) (t : Fin cfg0.N) (y : S512x512.Idx) :
    outBlk (xwBlk (iblk m c 0 t)) (wwBlk (iblk m c 1 t) (iblk m c 2 t)) y
      = outArr (V m c main_v4) (V m c main_v5) (V m c main_v3)
          (ix2 ⟨512 * (t.val / 8) + (y 0).val, row_lt t (y 0)⟩ ⟨512 * (t.val % 8) + (y 1).val, col_lt t (y 1)⟩) := by
  have hy : (y 1).val < 512 := (y 1).isLt
  unfold outBlk outArr wwBlk
  refine Finset.sum_congr rfl fun k _ => ?_
  rw [xw_iblk]
  refine congrArg₂ (fun s t : EReal => s * t) rfl (congrArg₂ (fun s t : EReal => s * t) (iblk1_apply m c t _) ((iblk2_apply m c t _).trans ?_))
  refine congrArg (V m c main_v3) (funext fun a => Fin.ext ?_)
  match a with
  | 0 => exact (show t.val % 8 = (512 * (t.val % 8) + (y 1).val) / 512 by omega)
  | 1 => exact (show (y 1).val / 128 = (512 * (t.val % 8) + (y 1).val) % 512 / 128 by omega)
  | 2 => rfl

/-- What a block of each result's array reads. -/
theorem read3 (t : Fin cfg0.N) (G : S8192x4096.Idx → EReal) (y : S512x512.Idx) :
    ((cfg0.win 3).blk t).view.read (Elt Ideal) G y
      = G (ix2 ⟨512 * (t.val / 8) + (y 0).val, row_lt t (y 0)⟩ ⟨512 * (t.val % 8) + (y 1).val, col_lt t (y 1)⟩) := by
  refine congrArg G (funext fun a => Fin.ext ?_)
  match a with
  | 0 => exact (show (BitVec.ofNat 32 (grid0.coords t 0).val).toNat * 512 + 1 * (y 0).val = 512 * (t.val / 8) + (y 0).val by rw [word_fst]; omega)
  | 1 => exact (show (BitVec.ofNat 32 (grid0.coords t 1).val).toNat * 512 + 1 * (y 1).val = 512 * (t.val % 8) + (y 1).val by rw [word_snd]; omega)

theorem read4 (t : Fin cfg0.N) (G : S8192x8192.Idx → EReal) (y : S512x8192.Idx) :
    ((cfg0.win 4).blk t).view.read (Elt Ideal) G y = G (ix2 ⟨512 * (t.val / 8) + (y 0).val, row_lt t (y 0)⟩ (y 1)) := by
  refine congrArg G (funext fun a => Fin.ext ?_)
  match a with
  | 0 => exact (show (BitVec.ofNat 32 (grid0.coords t 0).val).toNat * 512 + 1 * (y 0).val = 512 * (t.val / 8) + (y 0).val by rw [word_fst]; omega)
  | 1 => exact (show 0 * 8192 + 1 * (y 1).val = (y 1).val by omega)

theorem read5 (t : Fin cfg0.N) (G : S8192x64.Idx → EReal) (y : S512x64.Idx) :
    ((cfg0.win 5).blk t).view.read (Elt Ideal) G y = G (ix2 ⟨512 * (t.val / 8) + (y 0).val, row_lt t (y 0)⟩ (y 1)) := by
  refine congrArg G (funext fun a => Fin.ext ?_)
  match a with
  | 0 => exact (show (BitVec.ofNat 32 (grid0.coords t 0).val).toNat * 512 + 1 * (y 0).val = 512 * (t.val / 8) + (y 0).val by rw [word_fst]; omega)
  | 1 => exact (show 0 * 64 + 1 * (y 1).val = (y 1).val by omega)

theorem point_lt {R : ℕ} (hR : R < 8192) {q : ℕ} (hq : q < 8) : 8 * (R / 512) + q < cfg0.N := by
  have : cfg0.N = 128 := N_0
  omega

/-- The product's array. -/
theorem final3 (c : Dev nD) : (dats m 0 c).arrAt 3 cfg0.N = outArr (V m c main_v4) (V m c main_v5) (V m c main_v3) := by
  refine (dats m 0 c).arrAt_eq_of_cover 3 _ (fun t _ => ?_) fun (i : S8192x4096.Idx) => ?_
  · show (cfg0.win 3).cut (grid0.coords t) ((dats m 0 c).after 3 t) = _
    rw [after3]
    funext y
    exact (out_iblk m c t y).trans (read3 t _ y).symm
  · have h0 : (i 0).val < 8192 := (i 0).isLt
    have h1 : (i 1).val < 4096 := (i 1).isLt
    refine ⟨⟨8 * ((i 0).val / 512) + (i 1).val / 512, point_lt h0 (by omega)⟩, flush0_3 _, ?_⟩
    refine ((Finset.ext_iff.mp (View.set_slice_whole main_v6_0 (win0_3.rect ⟨8 * ((i 0).val / 512) + (i 1).val / 512, point_lt h0 (by omega)⟩))) i).mpr (Rect.mem_set_unit.mpr ?_)
    intro a
    match a with
    | 0 =>
      show (BitVec.ofNat 32 (grid0.coords _ 0).val).toNat * 512 ≤ (i 0).val ∧ (i 0).val < (BitVec.ofNat 32 (grid0.coords _ 0).val).toNat * 512 + 512
      rw [word_fst]; simp only; omega
    | 1 =>
      show (BitVec.ofNat 32 (grid0.coords _ 1).val).toNat * 512 ≤ (i 1).val ∧ (i 1).val < (BitVec.ofNat 32 (grid0.coords _ 1).val).toNat * 512 + 512
      rw [word_snd]; simp only; omega

/-- The codes' array. -/
theorem final4 (c : Dev nD) : (dats m 0 c).arrAt 4 cfg0.N = codesArr (V m c main_v4) := by
  refine (dats m 0 c).arrAt_eq_of_cover 4 _ (fun t _ => ?_) fun (i : S8192x8192.Idx) => ?_
  · show (cfg0.win 4).cut (grid0.coords t) ((dats m 0 c).after 4 t) = _
    rw [after4]
    funext y
    exact (codes_iblk m c t y).trans (read4 t _ y).symm
  · have h0 : (i 0).val < 8192 := (i 0).isLt
    have h1 : (i 1).val < 8192 := (i 1).isLt
    refine ⟨⟨8 * ((i 0).val / 512) + 7, point_lt h0 (by omega)⟩, (flush0_4 _).mpr (by simp only; omega), ?_⟩
    refine ((Finset.ext_iff.mp (View.set_slice_whole main_v6_1 (win0_4.rect ⟨8 * ((i 0).val / 512) + 7, point_lt h0 (by omega)⟩))) i).mpr (Rect.mem_set_unit.mpr ?_)
    intro a
    match a with
    | 0 =>
      show (BitVec.ofNat 32 (grid0.coords _ 0).val).toNat * 512 ≤ (i 0).val ∧ (i 0).val < (BitVec.ofNat 32 (grid0.coords _ 0).val).toNat * 512 + 512
      rw [word_fst]; simp only; omega
    | 1 =>
      show 0 * 8192 ≤ (i 1).val ∧ (i 1).val < 0 * 8192 + 8192
      omega

/-- The scales' array. -/
theorem final5 (c : Dev nD) : (dats m 0 c).arrAt 5 cfg0.N = scaleArr (V m c main_v4) := by
  refine (dats m 0 c).arrAt_eq_of_cover 5 _ (fun t _ => ?_) fun (i : S8192x64.Idx) => ?_
  · show (cfg0.win 5).cut (grid0.coords t) ((dats m 0 c).after 5 t) = _
    rw [after5]
    funext y
    exact (scale_iblk m c t y).trans (read5 t _ y).symm
  · have h0 : (i 0).val < 8192 := (i 0).isLt
    have h1 : (i 1).val < 64 := (i 1).isLt
    refine ⟨⟨8 * ((i 0).val / 512) + 7, point_lt h0 (by omega)⟩, (flush0_5 _).mpr (by simp only; omega), ?_⟩
    refine ((Finset.ext_iff.mp (View.set_slice_whole main_v6_2 (win0_5.rect ⟨8 * ((i 0).val / 512) + 7, point_lt h0 (by omega)⟩))) i).mpr (Rect.mem_set_unit.mpr ?_)
    intro a
    match a with
    | 0 =>
      show (BitVec.ofNat 32 (grid0.coords _ 0).val).toNat * 512 ≤ (i 0).val ∧ (i 0).val < (BitVec.ofNat 32 (grid0.coords _ 0).val).toNat * 512 + 512
      rw [word_fst]; simp only; omega
    | 1 =>
      show 0 * 64 ≤ (i 1).val ∧ (i 1).val < 0 * 64 + 64
      omega

end Cert.KernelIdeal.Slab

end
-- ==== Proof.Run.lean ====
/- The run of the kernel's program: the body at every grid point, and the launch. -/
module

public import proofs.«01_k».proof.Proof.Data
public import proofs.«01_k».proof.Proof.Gen.KernelIdeal.Frame

@[expose] public section

set_option maxRecDepth 16384

noncomputable section

namespace Cert.KernelIdeal.Slab

open Cert.KernelIdeal Cert.KernelIdeal.Gen Cert.Scale
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

abbrev ms0 (t : Fin cfg0.N) : Memref sig .tc .vmem S512x8192 .bf16 := win0_0.stage (cfg0.slots t 0)
abbrev ms1 (t : Fin cfg0.N) : Memref sig .tc .vmem S512x8192 .fp8e4m3 := win0_1.stage (cfg0.slots t 1)
abbrev ms2 (t : Fin cfg0.N) : Memref sig .tc .vmem S1x4x8192 .bf16 := win0_2.stage (cfg0.slots t 2)
abbrev ms3 (t : Fin cfg0.N) : Memref sig .tc .vmem S512x512 .bf16 := win0_3.stage (cfg0.slots t 3)
abbrev ms4 (t : Fin cfg0.N) : Memref sig .tc .vmem S512x8192 .fp8e4m3 := win0_4.stage (cfg0.slots t 4)
abbrev ms5 (t : Fin cfg0.N) : Memref sig .tc .vmem S512x64 .f32 := win0_5.stage (cfg0.slots t 5)

/-- The class's invariant: the two scratch buffers and the generator's register, at some contents. -/
theorem PhiA_eq (c : Dev nD) :
    (Pipeline.ΦA spec0 c : sProp (MT nD τ sig Unit (Elt Ideal) ℕ (UR sig nD τ) ℕ))
      = iprop(iprop((∃ d, owns (c : Thread nD τ) (Memref.whole cc0_scratch0 : Memref sig .tc .vmem S512x8192 .bf16) fullShare d)
          ∗ (∃ d, owns (c : Thread nD τ) (Memref.whole cc0_scratch1 : Memref sig .tc .vmem S512x8192 .bf16) fullShare d)) ∗ (∃ r, prngReg c r)) := by
  unfold Pipeline.ΦA; rw [scopedRest0_eq]; simp only [owns_whole]; try rfl

/-- What the body is called with at point `t`, -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp (MT nD τ sig Unit (Elt Ideal) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [show cfg0.idle 0 (grid0.coords t) = false from rfl], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [show cfg0.idle 1 (grid0.coords t) = false from rfl], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [show cfg0.idle 2 (grid0.coords t) = false from rfl], after2]
theorem leaves3 (c : Dev nD) (t : Fin cfg0.N) : (dats m 0 c).leavesExact 3 t
    = owns (c : Thread nD τ) (ms3 t) fullShare (outBlk (xwBlk (iblk m c 0 t)) (wwBlk (iblk m c 1 t) (iblk m c 2 t))) := by
  rw [show (dats m 0 c).leavesExact 3 t = owns (c : Thread nD τ) (ms3 t) fullShare ((dats m 0 c).after 3 t) from by
    unfold Dat.leavesExact; rw [show cfg0.idle 3 (grid0.coords t) = false from rfl], after3]

/-- The codes' buffer holds the codes after every point, stored there or not. -/
theorem leaves4 (c : Dev nD) (t : Fin cfg0.N) : owns (c : Thread nD τ) (ms4 t) fullShare (codesBlk (iblk m c 0 t)) ⊢ (dats m 0 c).leavesExact 4 t := by
  unfold Dat.leavesExact
  by_cases h : t.val % 8 = 0
  · rw [live4 t h]; rw [show (dats m 0 c).after 4 t = _ from after4 m c t]
  · rw [idle4 t h]
    cases (cfg0.win 4).flush t
    · iintro H
      iexists (codesBlk (iblk m c 0 t))
      rw [before4 m c _ t rfl h]
      iexact H
    · rw [show (dats m 0 c).after 4 t = _ from after4 m c t]

/-- And the scales' buffer the scales. -/
theorem leaves5 (c : Dev nD) (t : Fin cfg0.N) : owns (c : Thread nD τ) (ms5 t) fullShare (scaleBlk (iblk m c 0 t)) ⊢ (dats m 0 c).leavesExact 5 t := by
  unfold Dat.leavesExact
  by_cases h : t.val % 8 = 0
  · rw [live5 t h]; rw [show (dats m 0 c).after 5 t = _ from after5 m c t]
  · rw [idle5 t h]
    cases (cfg0.win 5).flush t
    · iintro H
      iexists (scaleBlk (iblk m c 0 t))
      rw [before5 m c _ t rfl h]
      iexact H
    · rw [show (dats m 0 c).after 5 t = _ from after5 m c t]

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, leaves0, leaves1, leaves2, leaves3]
  rw [show (dats m 0 c).owesAt () t.succ = (dats m 0 c).owesAt () t.castSucc from rfl]
  have hnext : ∀ t' : Fin cfg0.N, t'.val = t.succ.val → t'.val % 8 ≠ 0 → xwBlk (iblk m c 0 t) = xwBlk (iblk m c 0 t') := fun t' e h => by
    rw [iblk0_row m c (t := t) (t' := t') (by rw [e, Fin.val_succ] at *; omega)]
  unfold dats
  dsimp only
  by_cases h0 : t.val % 8 = 0
  · iintro ⟨⟨⟨⟨%ds, -, HS0⟩, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((first_iff t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexists _; iexact HS0
    isplitl [HS1]; · iexact HS1
    iintro ⟨H0, H1, H2, H3, H4, H5, HS0, HS1⟩
    isplitl [HS0 HS1 Hg]
    · isplitl [HS0 HS1]
      · isplitl [HS0]
        · iexists _; isplitr; swap; · iexact HS0
          ipureintro; exact hnext
        iexact HS1
      iexact Hg
    isplitl [Ho]; · iexact Ho
    isplitl [H0]; · iexact H0
    isplitl [H1]; · iexact H1
    isplitl [H2]; · iexact H2
    isplitl [H3]; · iexact H3
    isplitl [H4]; · iapply (leaves4 m c t); iexact H4
    iapply (leaves5 m c t); iexact H5
  · iintro ⟨⟨⟨⟨%ds, %hs, HS0⟩, HS1⟩, Hg⟩, Ho, ⟨%d0, H0⟩, ⟨%d1, H1⟩, ⟨%d2, H2⟩, ⟨%d3, H3⟩, ⟨%d4, H4⟩, ⟨%d5, H5⟩⟩
    obtain rfl := hs t rfl h0
    iapply ((kernelRun0_B c (grid0.coords t) _ _ _ _ _ _ _ _ (ms4 t) _ (ms5 t) _ _ _ _ _ (fun h => h0 ((first_iff t).mp h)) (iblk m c 0 t) (iblk m c 1 t) (iblk m c 2 t) (xwBlk (iblk m c 0 t))) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]
        · iexists _; isplitr; swap; · iexact HS0
          ipureintro; exact hnext
        iexact HS1
      iexact Hg
    isplitl [Ho]; · iexact Ho
    isplitl [H0]; · iexact H0
    isplitl [H1]; · iexact H1
    isplitl [H2]; · iexact H2
    isplitl [H3]; · iexact H3
    isplitl [H4]
    · iapply (leaves4 m c t); rw [← before4 m c _ t rfl h0 d4]; iexact H4
    iapply (leaves5 m c t); rw [← before5 m c _ t rfl h0 d5]; iexact H5

/-- The body table's row at point `t` is the body. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem Phi_in (c : Dev nD) : Pipeline.ΦA spec0 c ⊢ (dats m 0 c).Φ 0 := by
  rw [PhiA_eq]
  unfold dats
  dsimp only
  iintro ⟨⟨⟨%d, HS0⟩, HS1⟩, Hg⟩
  isplitl [HS0 HS1]
  · isplitl [HS0]
    · iexists _; isplitr; swap; · iexact HS0
      ipureintro; exact fun t' e h => absurd (by rw [e]; rfl) h
    iexact HS1
  iexact Hg

theorem Phi_out (c : Dev nD) : (dats m 0 c).Φ (Fin.last cfg0.N) ⊢ Pipeline.ΦA spec0 c := by
  rw [PhiA_eq]
  unfold dats
  dsimp only
  iintro ⟨⟨⟨%d, -, HS0⟩, HS1⟩, Hg⟩
  isplitl [HS0 HS1]
  · isplitl [HS0]
    · iexists _; iexact HS0
    iexact HS1
  iexact Hg

-- the launch theorem's implicit arguments are found by unifying its conclusion with this one, which takes unfolding plain
-- definitions in a metavariable's type
set_option backward.isDefEq.respectTransparency.types false in
set_option maxHeartbeats 800000 in
/-- Every run of the program ends with the arrays as the proof data says and the semaphores at zero. -/
theorem run_main : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

end Cert.KernelIdeal.Slab

end
-- ==== Proof.KerRun.lean ====
/- What the kernel's program leaves in its three results. -/
module

public import proofs.«01_k».proof.Proof.Arrays
public import proofs.«01_k».proof.Proof.Run
public import Idealize.ShloMosaic.Lib.Claim

@[expose] public section

set_option maxRecDepth 16384

noncomputable section

namespace Cert.KernelIdeal.Slab

open Cert.KernelIdeal Cert.KernelIdeal.Gen Cert.Scale
open Idealize.ShloMosaic Idealize.ShloMosaic.TcCoe Idealize.ShloMosaic.Tactic
open Idealize.SL Idealize.SL.Sem Idealize.ShloMosaic.Rounds

variable (m : (ℓ : Loc nD τ sig) → Buf (Elt Ideal) ℓ) (ρ : Dev nD → PrngReg)

theorem after7 (c : Dev nD) (σ : Valuation τ sig (Elt Ideal)) :
    StableHlo.after (List.flatten [hostOps1 (F := Ideal)]) σ (Proc.devRef .tc main_v7) = shapeCast S2x4096x16x256 (σ (Proc.devRef .tc main_v6_0)) shapeCasts_S8192x4096_S2x4096x16x256 := by
  simp only [List.flatten_cons, List.flatten_nil, List.append_nil]
  after_results; rfl

theorem after8 (c : Dev nD) (σ : Valuation τ sig (Elt Ideal)) :
    StableHlo.after (List.flatten [hostOps1 (F := Ideal)]) σ (Proc.devRef .tc main_v8) = shapeCast S2x4096x8192 (σ (Proc.devRef .tc main_v6_1)) shapeCasts_S8192x8192_S2x4096x8192 := by
  simp only [List.flatten_cons, List.flatten_nil, List.append_nil]
  after_results; rfl

theorem after9 (c : Dev nD) (σ : Valuation τ sig (Elt Ideal)) :
    StableHlo.after (List.flatten [hostOps1 (F := Ideal)]) σ (Proc.devRef .tc main_v9) = shapeCast S2x4096x64 (σ (Proc.devRef .tc main_v6_2)) shapeCasts_S8192x64_S2x4096x64 := by
  simp only [List.flatten_cons, List.flatten_nil, List.append_nil]
  after_results; rfl

theorem arrRef_inj : Function.Injective (Pipeline.arrRef spec0) := by
  intro a b
  revert a b
  decide

/-- What a result array of the grid holds when the reshapes after it run. -/
theorem tail_arr (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 arrRef_inj c (V0 m c) _ w

theorem tail7 (c : Dev nD) : Pipeline.afterTail₀ cfgs (dats m) 0 (V0 m) [hostOps1] c main_v7
    = shapeCast S2x4096x16x256 (outArr (V m c main_v4) (V m c main_v5) (V m c main_v3)) shapeCasts_S8192x4096_S2x4096x16x256 :=
  (after7 c _).trans (congrArg (fun A : S8192x4096.Idx → EReal => shapeCast S2x4096x16x256 A shapeCasts_S8192x4096_S2x4096x16x256) ((tail_arr m c 3).trans (final3 m c)))

theorem tail8 (c : Dev nD) : Pipeline.afterTail₀ cfgs (dats m) 0 (V0 m) [hostOps1] c main_v8
    = shapeCast S2x4096x8192 (codesArr (V m c main_v4)) shapeCasts_S8192x8192_S2x4096x8192 :=
  (after8 c _).trans (congrArg (fun A : S8192x8192.Idx → EReal => shapeCast S2x4096x8192 A shapeCasts_S8192x8192_S2x4096x8192) ((tail_arr m c 4).trans (final4 m c)))

theorem tail9 (c : Dev nD) : Pipeline.afterTail₀ cfgs (dats m) 0 (V0 m) [hostOps1] c main_v9
    = shapeCast S2x4096x64 (scaleArr (V m c main_v4)) shapeCasts_S8192x64_S2x4096x64 :=
  (after9 c _).trans (congrArg (fun A : S8192x64.Idx → EReal => shapeCast S2x4096x64 A shapeCasts_S8192x64_S2x4096x64) ((tail_arr m c 5).trans (final5 m c)))

/-- The kernel's run: its three results, and its arguments as they were. -/
theorem run : θ_run defs (onTc (τ := τ) (main (F := Ideal))) ⟨m, fun _ => 0, ρ⟩ (fun r => ∀ c : Dev nD,
      r.2.mem ((c.tc : Thread nD τ).loc main_v7) = shapeCast S2x4096x16x256 (outArr (V m c main_v4) (V m c main_v5) (V m c main_v3)) shapeCasts_S8192x4096_S2x4096x16x256
      ∧ r.2.mem ((c.tc : Thread nD τ).loc main_v8) = shapeCast S2x4096x8192 (codesArr (V m c main_v4)) shapeCasts_S8192x8192_S2x4096x8192
      ∧ r.2.mem ((c.tc : Thread nD τ).loc main_v9) = shapeCast S2x4096x64 (scaleArr (V m c main_v4)) shapeCasts_S8192x64_S2x4096x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h.1 c).2 main_v7 (Pipeline.mem_restRefs_of main_v7 (by decide) (by decide))).trans (tail7 m c),
      ((h.1 c).2 main_v8 (Pipeline.mem_restRefs_of main_v8 (by decide) (by decide))).trans (tail8 m c),
      ((h.1 c).2 main_v9 (Pipeline.mem_restRefs_of main_v9 (by decide) (by decide))).trans (tail9 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩) (run_main m ρ)

/-- The kernel ends with its arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Slab

end
-- ==== Proof.RefPay.lean ====
/- The reference's computed vectors, read at an index. -/
module

public import proofs.«01_k».proof.Proof.Scale
public import proofs.«01_k».proof.Proof.Gen.ReferenceIdeal.Skeleton
public import Idealize.ShloMosaic.Lib.Pointwise

@[expose] public section

set_option maxRecDepth 16384

noncomputable section

namespace Cert.ReferenceIdeal.Vals

open Cert.ReferenceIdeal Cert.ReferenceIdeal.Gen Cert.Scale
open Idealize.ShloMosaic Idealize.ShloMosaic.TcCoe

/-- The largest magnitude of group `g` of token `(b, r)`. -/
def groupMax (x : S2x4096x8192.Idx → EReal) (b : Fin 2) (r : Fin 4096) (g : Fin 64) : EReal :=
  Finset.univ.fold max (Ideal.ofBits .f32 0xFF800000#32) fun l : Fin 128 =>
    FloatOps.absf (F := Ideal) (φ := .f32) (x (ix3 b r ⟨128 * g.val + l.val, by have := g.isLt; have := l.isLt; omega⟩))

/-- The group a column lies in. -/
def grpOf (k : Fin 8192) : Fin 64 := ⟨k.val / 128, by have := k.isLt; omega⟩

theorem pay2_apply (x : FVec Ideal S2x4096x8192 .bf16) (b : Fin 2) (r : Fin 4096) (g : Fin 64) (l : Fin 128) :
    (k0_pay2 (F := Ideal) x (ix4 b r g l) : EReal) = x (ix3 b r ⟨128 * g.val + l.val, by have := g.isLt; have := l.isLt; omega⟩) := by
  pointwise [k0_pay2]
  exact congrArg x (congrArg (ix3 b r) (Fin.ext (show g.val * 128 + l.val = 128 * g.val + l.val by omega)))

theorem max_apply (v : FVec Ideal S2x4096x64x128 .f32) (b : Fin 2) (r : Fin 4096) (g : Fin 64) :
    (multiReduction (F := Ideal) .maximumf [3] S2x4096x64 v 0xFF800000#32 reduces_S2x4096x64x128_S2x4096x64 (.inl rfl) rfl (ix3 b r g) : EReal)
      = Finset.univ.fold max (Ideal.ofBits .f32 0xFF800000#32) fun l : Fin 128 => (v (ix4 b r g l) : EReal) := by
  pointwise

/-- The exponent of a group, from any vector of maxima. -/
theorem exp_of (A : FVec Ideal S2x4096x64 .f32) (i : S2x4096x64.Idx) :
    (select (cmpf .oeq A (broadcast S2x4096x64 (Scalar.ofBits (F := Ideal) .f32 0x00000000#32)))
      (broadcast S2x4096x64 (Scalar.ofBits (F := Ideal) .f32 0x00000000#32))
      (addf (floor (divf (log (mulf A (broadcast S2x4096x64 (Scalar.ofBits (F := Ideal) .f32 0x3B124925#32))))
        (log (broadcast S2x4096x64 (Scalar.ofBits (F := Ideal) .f32 0x40000000#32)))))
        (broadcast S2x4096x64 (Scalar.ofBits (F := Ideal) .f32 0x3F800000#32))) i : EReal) = expR (A i) := rfl

theorem pay3_apply (x : FVec Ideal S2x4096x8192 .bf16) (b : Fin 2) (r : Fin 4096) (g : Fin 64) :
    (k0_pay3 (F := Ideal) x (ix3 b r g) : EReal) = expR (groupMax x b r g) := by
  have h := max_apply (absf (k0_pay2 (F := Ideal) x)) b r g
  have h' : (Finset.univ.fold max (Ideal.ofBits .f32 0xFF800000#32) fun l : Fin 128 => (absf (k0_pay2 (F := Ideal) x) (ix4 b r g l) : EReal)) = groupMax x b r g := by
    unfold groupMax
    refine congrArg (Finset.fold max _ · _) (funext fun l => ?_)
    exact congrArg _ (pay2_apply x b r g l)
  rw [h'] at h
  rw [← h]
  exact exp_of _ _

/-- A vector of one value for each group, spread over the group's entries. -/
theorem col_apply (B : FVec Ideal S2x4096x64 .f32) (b : Fin 2) (r : Fin 4096) (g : Fin 64) (l : Fin 128) :
    (broadcastTo S2x4096x64x128 (shapeCast S2x4096x64x1 B shapeCasts_S2x4096x64_S2x4096x64x1) broadcasts_S2x4096x64x1_S2x4096x64x128 (ix4 b r g l) : EReal) = B (ix3 b r g) := by
  pointwise

/-- The clipped quotients, from any values and exponents. -/
theorem codes_of (A : FVec Ideal S2x4096x64x128 .f32) (B : FVec Ideal S2x4096x64 .f32) (b : Fin 2) (r : Fin 4096) (g : Fin 64) (l : Fin 128) :
    (minimumf (broadcast S2x4096x64x128 (Scalar.ofBits (F := Ideal) .f32 0x43E00000#32)) (maximumf (broadcast S2x4096x64x128 (Scalar.ofBits (F := Ideal) .f32 0xC3E00000#32))
      (mulf A (broadcastTo S2x4096x64x128 (shapeCast S2x4096x64x1 (exp2 (subf (broadcast S2x4096x64 (Scalar.ofBits (F := Ideal) .f32 0x00000000#32)) B)) shapeCasts_S2x4096x64_S2x4096x64x1) broadcasts_S2x4096x64x1_S2x4096x64x128))) (ix4 b r g l) : EReal)
    = min (Ideal.ofBits .f32 0x43E00000#32) (max (Ideal.ofBits .f32 0xC3E00000#32)
      (A (ix4 b r g l) * Ideal.exp2 (Ideal.ofBits .f32 0x00000000#32 - B (ix3 b r g)))) := by
  have h := col_apply (exp2 (subf (broadcast S2x4096x64 (Scalar.ofBits (F := Ideal) .f32 0x00000000#32)) B)) b r g l
  have h' : (exp2 (subf (broadcast S2x4096x64 (Scalar.ofBits (F := Ideal) .f32 0x00000000#32)) B) (ix3 b r g) : EReal)
      = Ideal.exp2 (Ideal.ofBits .f32 0x00000000#32 - B (ix3 b r g)) := rfl
  rw [← h', ← h]
  rfl

theorem pay5_apply (x : FVec Ideal S2x4096x8192 .bf16) (b : Fin 2) (r : Fin 4096) (g : Fin 64) (l : Fin 128) :
    (k0_pay5 (F := Ideal) x (ix4 b r g l) : EReal) = min (Ideal.ofBits .f32 0x43E00000#32) (max (Ideal.ofBits .f32 0xC3E00000#32)
      (k0_pay2 (F := Ideal) x (ix4 b r g l) * Ideal.exp2 (Ideal.ofBits .f32 0x00000000#32 - k0_pay3 (F := Ideal) x (ix3 b r g)))) :=
  codes_of (k0_pay2 (F := Ideal) x) (k0_pay3 (F := Ideal) x) b r g l

theorem pay6_apply (x : FVec Ideal S2x4096x8192 .bf16) (b : Fin 2) (r : Fin 4096) (k : Fin 8192) :
    (k0_pay6 (F := Ideal) x (ix3 b r k) : EReal) = k0_pay5 (F := Ideal) x (ix4 b r (grpOf k) ⟨k.val % 128, by omega⟩) := by
  pointwise [k0_pay6]
  rfl

theorem extf_at (A : FVec Ideal S2x4096x64x128 .fp8e4m3) (i : S2x4096x64x128.Idx) :
    (extf (F := Ideal) .bf16 A bitsLt_fp8e4m3_bf16 i : EReal) = A i := rfl

theorem truncf_at (A : FVec Ideal S2x4096x64 .f32) (i : S2x4096x64.Idx) :
    (truncf (F := Ideal) .bf16 A bitsLt_bf16_f32 i : EReal) = A i := rfl

theorem exp2_at (A : FVec Ideal S2x4096x64 .f32) (i : S2x4096x64.Idx) : (exp2 A i : EReal) = Ideal.exp2 (A i) := rfl

theorem pay4_apply (x : FVec Ideal S2x4096x8192 .bf16) (i : S2x4096x64.Idx) :
    (k0_pay4 (F := Ideal) x i : EReal) = Ideal.exp2 (k0_pay3 (F := Ideal) x i) :=
  exp2_at (k0_pay3 (F := Ideal) x) i

/-- The codes times their scales as a matrix, from any codes and scales. -/
theorem xw_of (A : FVec Ideal S2x4096x64x128 .bf16) (B : FVec Ideal S2x4096x64 .bf16) (R k : Fin 8192) :
    (shapeCast S8192x8192 (mulf A (broadcastTo S2x4096x64x128 (shapeCast S2x4096x64x1 B shapeCasts_S2x4096x64_S2x4096x64x1) broadcasts_S2x4096x64x1_S2x4096x64x128)) shapeCasts_S2x4096x64x128_S8192x8192 (ix2 R k) : EReal)
      = A (ix4 ⟨R.val / 4096, by have := R.isLt; omega⟩ ⟨R.val % 4096, by omega⟩ (grpOf k) ⟨k.val % 128, by omega⟩)
        * B (ix3 ⟨R.val / 4096, by have := R.isLt; omega⟩ ⟨R.val % 4096, by omega⟩ (grpOf k)) := by
  pointwise
  rfl

theorem pay7_apply (x : FVec Ideal S2x4096x8192 .bf16) (R k : Fin 8192) :
    (k0_pay7 (F := Ideal) x (ix2 R k) : EReal)
      = k0_pay5 (F := Ideal) x (ix4 ⟨R.val / 4096, by have := R.isLt; omega⟩ ⟨R.val % 4096, by omega⟩ (grpOf k) ⟨k.val % 128, by omega⟩)
        * Ideal.exp2 (k0_pay3 (F := Ideal) x (ix3 ⟨R.val / 4096, by have := R.isLt; omega⟩ ⟨R.val % 4096, by omega⟩ (grpOf k))) :=
  (xw_of (extf .bf16 (k0_pay5 (F := Ideal) x) bitsLt_fp8e4m3_bf16) (truncf .bf16 (k0_pay4 (F := Ideal) x) bitsLt_bf16_f32) R k).trans
    (congrArg₂ (fun s t : EReal => s * t) (extf_at _ _) ((truncf_at _ _).trans (pay4_apply _ _)))

theorem pay1_apply (v : FVec Ideal S8192x8192 .bf16) (w : FVec Ideal S16x256x8192 .fp8e4m3) (ws : FVec Ideal S16x2x64 .f32)
    (b : Fin 2) (r : Fin 4096) (h : Fin 16) (d : Fin 256) :
    (k0_pay1 (F := Ideal) v w ws (ix4 b r h d) : EReal)
      = ∑ k : Fin 8192, (v (ix2 ⟨4096 * b.val + r.val, by have := b.isLt; have := r.isLt; omega⟩ k) : EReal)
        * ((w (ix3 h d k) : EReal) * (ws (ix3 h ⟨d.val / 128, by have := d.isLt; omega⟩ (grpOf k)) : EReal)) := by
  pointwise [k0_pay1]
  refine Finset.sum_congr rfl fun k _ => congrArg₂ (fun s t : EReal => s * t) ?_ (congrArg₂ (fun s t : EReal => s * t) rfl ?_)
  · exact congrArg v (congrArg (ix2 · k) (Fin.ext (show b.val * 4096 + r.val = 4096 * b.val + r.val by omega)))
  · exact congrArg ws (congrArg₂ (ix3 h) (Fin.ext (show (h.val * 256 + d.val) / 128 % 2 = d.val / 128 by have := d.isLt; omega)) rfl)

end Cert.ReferenceIdeal.Vals

end
-- ==== Proof.RefRun.lean ====
/- What the reference leaves in its three result arrays. -/
module

public import proofs.«01_k».proof.Proof.RefPay
public import proofs.«01_k».proof.Proof.Gen.ReferenceIdeal.Frame
public import Idealize.ShloMosaic.Lib.Pipeline.Value

@[expose] public section

set_option maxRecDepth 16384

noncomputable section

namespace Cert.ReferenceIdeal.Vals

open Cert.ReferenceIdeal Cert.ReferenceIdeal.Gen Cert.Scale
open Idealize.ShloMosaic Idealize.ShloMosaic.TcCoe
open Idealize.SL Idealize.SL.Sem

variable (m : (ℓ : Loc nD τ sig) → Buf (Elt Ideal) ℓ) (ρ : Dev nD → PrngReg)

theorem iblk0_eq (c : Dev nD) (t : Fin cfg0.N) : iblk m c 0 t = m ((c : Thread nD τ).loc main_arg0) := by
  funext (y : S2x4096x8192.Idx)
  refine congrArg (m ((c : Thread nD τ).loc main_arg0)) (funext fun a => Fin.ext ?_)
  match a with
  | 0 => exact (show 0 * 2 + 1 * (y 0).val = (y 0).val by omega)
  | 1 => exact (show 0 * 4096 + 1 * (y 1).val = (y 1).val by omega)
  | 2 => exact (show 0 * 8192 + 1 * (y 2).val = (y 2).val by omega)

theorem iblk1_eq (c : Dev nD) (t : Fin cfg0.N) : iblk m c 1 t = m ((c : Thread nD τ).loc main_arg1) := by
  funext (y : S16x256x8192.Idx)
  refine congrArg (m ((c : Thread nD τ).loc main_arg1)) (funext fun a => Fin.ext ?_)
  match a with
  | 0 => exact (show 0 * 16 + 1 * (y 0).val = (y 0).val by omega)
  | 1 => exact (show 0 * 256 + 1 * (y 1).val = (y 1).val by omega)
  | 2 => exact (show 0 * 8192 + 1 * (y 2).val = (y 2).val by omega)

theorem iblk2_eq (c : Dev nD) (t : Fin cfg0.N) : iblk m c 2 t = m ((c : Thread nD τ).loc main_arg2) := by
  funext (y : S16x2x64.Idx)
  refine congrArg (m ((c : Thread nD τ).loc main_arg2)) (funext fun a => Fin.ext ?_)
  match a with
  | 0 => exact (show 0 * 16 + 1 * (y 0).val = (y 0).val by omega)
  | 1 => exact (show 0 * 2 + 1 * (y 1).val = (y 1).val by omega)
  | 2 => exact (show 0 * 64 + 1 * (y 2).val = (y 2).val by omega)

theorem zero3 : (![0, 0, 0] : Fin 3 → ℕ) = fun _ => 0 := by
  funext a; match a with | 0 => rfl | 1 => rfl | 2 => rfl
theorem zero4 : (![0, 0, 0, 0] : Fin 4 → ℕ) = fun _ => 0 := by
  funext a; match a with | 0 => rfl | 1 => rfl | 2 => rfl | 3 => rfl

theorem out3_eq (x : FVec Ideal S2x4096x8192 .bf16) (w : FVec Ideal S16x256x8192 .fp8e4m3) (ws : FVec Ideal S16x2x64 .f32) :
    out0_3 (F := Ideal) x w ws = k0_pay1 (F := Ideal) (k0_pay7 (F := Ideal) x) w ws := by
  unfold out0_3
  rw [View.canon_unit_zero zero4, View.ld_unit_zero zero3, View.ld_unit_zero zero3, View.ld_unit_zero zero3]

theorem out4_eq (x : FVec Ideal S2x4096x8192 .bf16) (w : FVec Ideal S16x256x8192 .fp8e4m3) (ws : FVec Ideal S16x2x64 .f32) :
    out0_4 (F := Ideal) x w ws = k0_pay6 (F := Ideal) x := by
  unfold out0_4
  rw [View.canon_unit_zero zero3, View.ld_unit_zero zero3]

theorem out5_eq (x : FVec Ideal S2x4096x8192 .bf16) (w : FVec Ideal S16x256x8192 .fp8e4m3) (ws : FVec Ideal S16x2x64 .f32) :
    out0_5 (F := Ideal) x w ws = k0_pay4 (F := Ideal) x := by
  unfold out0_5
  rw [View.canon_unit_zero zero3, View.ld_unit_zero zero3]

/-- The reference's result `out`. -/
def outV (c : Dev nD) : FVec Ideal S2x4096x16x256 .bf16 :=
  k0_pay1 (F := Ideal) (k0_pay7 (F := Ideal) (m ((c : Thread nD τ).loc main_arg0))) (m ((c : Thread nD τ).loc main_arg1)) (m ((c : Thread nD τ).loc main_arg2))
/-- The reference's result `x_codes`. -/
def codesV (c : Dev nD) : FVec Ideal S2x4096x8192 .fp8e4m3 := k0_pay6 (F := Ideal) (m ((c : Thread nD τ).loc main_arg0))
/-- The reference's result `x_scale`. -/
def scaleV (c : Dev nD) : FVec Ideal S2x4096x64 .f32 := k0_pay4 (F := Ideal) (m ((c : Thread nD τ).loc main_arg0))

theorem outV_eq (c : Dev nD) {x : FVec Ideal S2x4096x8192 .bf16} {w : FVec Ideal S16x256x8192 .fp8e4m3} {ws : FVec Ideal S16x2x64 .f32}
    (h0 : m ((c : Thread nD τ).loc main_arg0) = x) (h1 : m ((c : Thread nD τ).loc main_arg1) = w) (h2 : m ((c : Thread nD τ).loc main_arg2) = ws) :
    outV m c = k0_pay1 (F := Ideal) (k0_pay7 (F := Ideal) x) w ws := by
  unfold outV; rw [h0, h1, h2]
theorem codesV_eq (c : Dev nD) {x : FVec Ideal S2x4096x8192 .bf16} (h0 : m ((c : Thread nD τ).loc main_arg0) = x) :
    codesV m c = k0_pay6 (F := Ideal) x := by
  unfold codesV; rw [h0]
theorem scaleV_eq (c : Dev nD) {x : FVec Ideal S2x4096x8192 .bf16} (h0 : m ((c : Thread nD τ).loc main_arg0) = x) :
    scaleV m c = k0_pay4 (F := Ideal) x := by
  unfold scaleV; rw [h0]

theorem read3 (t : Fin cfg0.N) (G : S2x4096x16x256.Idx → Elt Ideal .bf16) :
    (cfg0.win 3).cut (grid0.coords t) G = ((cfg0.win 3).blk t).view.read (Elt Ideal) G := by
  funext (y : S2x4096x16x256.Idx)
  refine congrArg G (funext fun a => Fin.ext ?_)
  match a with
  | 0 => exact (show (y 0).val = 0 * 2 + 1 * (y 0).val by omega)
  | 1 => exact (show (y 1).val = 0 * 4096 + 1 * (y 1).val by omega)
  | 2 => exact (show (y 2).val = 0 * 16 + 1 * (y 2).val by omega)
  | 3 => exact (show (y 3).val = 0 * 256 + 1 * (y 3).val by omega)

theorem read4 (t : Fin cfg0.N) (G : S2x4096x8192.Idx → Elt Ideal .fp8e4m3) :
    (cfg0.win 4).cut (grid0.coords t) G = ((cfg0.win 4).blk t).view.read (Elt Ideal) G := by
  funext (y : S2x4096x8192.Idx)
  refine congrArg G (funext fun a => Fin.ext ?_)
  match a with
  | 0 => exact (show (y 0).val = 0 * 2 + 1 * (y 0).val by omega)
  | 1 => exact (show (y 1).val = 0 * 4096 + 1 * (y 1).val by omega)
  | 2 => exact (show (y 2).val = 0 * 8192 + 1 * (y 2).val by omega)

theorem read5 (t : Fin cfg0.N) (G : S2x4096x64.Idx → Elt Ideal .f32) :
    (cfg0.win 5).cut (grid0.coords t) G = ((cfg0.win 5).blk t).view.read (Elt Ideal) G := by
  funext (y : S2x4096x64.Idx)
  refine congrArg G (funext fun a => Fin.ext ?_)
  match a with
  | 0 => exact (show (y 0).val = 0 * 2 + 1 * (y 0).val by omega)
  | 1 => exact (show (y 1).val = 0 * 4096 + 1 * (y 1).val by omega)
  | 2 => exact (show (y 2).val = 0 * 64 + 1 * (y 2).val by omega)

theorem final3 (c : Dev nD) : (dats m 0 c).arrAt 3 cfg0.N = outV m c := by
  refine (dats m 0 c).arrAt_eq_of_cover 3 _ (fun t _ => ?_) fun (i : S2x4096x16x256.Idx) => ?_
  · show (cfg0.win 3).cut (grid0.coords t) ((dats m 0 c).after 3 t) = _
    rw [after0_3, out3_eq, iblk0_eq, iblk1_eq, iblk2_eq]
    exact read3 t (outV m c)
  · refine ⟨t0_0, flush0_3 _, ?_⟩
    refine ((Finset.ext_iff.mp (View.set_slice_whole main_v0_0 (win0_3.rect t0_0))) i).mpr (Rect.mem_set_unit.mpr ?_)
    intro a
    match a with
    | 0 => exact (show 0 * 2 ≤ (i 0).val ∧ (i 0).val < 0 * 2 + 2 by have : (i 0).val < 2 := (i 0).isLt; omega)
    | 1 => exact (show 0 * 4096 ≤ (i 1).val ∧ (i 1).val < 0 * 4096 + 4096 by have : (i 1).val < 4096 := (i 1).isLt; omega)
    | 2 => exact (show 0 * 16 ≤ (i 2).val ∧ (i 2).val < 0 * 16 + 16 by have : (i 2).val < 16 := (i 2).isLt; omega)
    | 3 => exact (show 0 * 256 ≤ (i 3).val ∧ (i 3).val < 0 * 256 + 256 by have : (i 3).val < 256 := (i 3).isLt; omega)

theorem final4 (c : Dev nD) : (dats m 0 c).arrAt 4 cfg0.N = codesV m c := by
  refine (dats m 0 c).arrAt_eq_of_cover 4 _ (fun t _ => ?_) fun (i : S2x4096x8192.Idx) => ?_
  · show (cfg0.win 4).cut (grid0.coords t) ((dats m 0 c).after 4 t) = _
    rw [after0_4, out4_eq, iblk0_eq]
    exact read4 t (codesV m c)
  · refine ⟨t0_0, flush0_4 _, ?_⟩
    refine ((Finset.ext_iff.mp (View.set_slice_whole main_v0_1 (win0_4.rect t0_0))) i).mpr (Rect.mem_set_unit.mpr ?_)
    intro a
    match a with
    | 0 => exact (show 0 * 2 ≤ (i 0).val ∧ (i 0).val < 0 * 2 + 2 by have : (i 0).val < 2 := (i 0).isLt; omega)
    | 1 => exact (show 0 * 4096 ≤ (i 1).val ∧ (i 1).val < 0 * 4096 + 4096 by have : (i 1).val < 4096 := (i 1).isLt; omega)
    | 2 => exact (show 0 * 8192 ≤ (i 2).val ∧ (i 2).val < 0 * 8192 + 8192 by have : (i 2).val < 8192 := (i 2).isLt; omega)

theorem after5_eq (c : Dev nD) (t : Fin cfg0.N) : (dats m 0 c).after 5 t = scaleV m c := by
  rw [after0_5, out5_eq, iblk0_eq]; exact rfl

theorem final5 (c : Dev nD) : (dats m 0 c).arrAt 5 cfg0.N = scaleV m c := by
  refine (dats m 0 c).arrAt_eq_of_cover 5 _ (fun t _ => ?_) fun (i : S2x4096x64.Idx) => ?_
  · show (cfg0.win 5).cut (grid0.coords t) ((dats m 0 c).after 5 t) = _
    rw [after5_eq]
    exact read5 t (scaleV m c)
  · refine ⟨t0_0, flush0_5 _, ?_⟩
    refine ((Finset.ext_iff.mp (View.set_slice_whole main_v0_2 (win0_5.rect t0_0))) i).mpr (Rect.mem_set_unit.mpr ?_)
    intro a
    match a with
    | 0 => exact (show 0 * 2 ≤ (i 0).val ∧ (i 0).val < 0 * 2 + 2 by have : (i 0).val < 2 := (i 0).isLt; omega)
    | 1 => exact (show 0 * 4096 ≤ (i 1).val ∧ (i 1).val < 0 * 4096 + 4096 by have : (i 1).val < 4096 := (i 1).isLt; omega)
    | 2 => exact (show 0 * 64 ≤ (i 2).val ∧ (i 2).val < 0 * 64 + 64 by have : (i 2).val < 64 := (i 2).isLt; omega)

/-- The reference's run: its three results, and its arguments as they were. -/
theorem run : θ_run defs (onTc (τ := τ) (main (F := Ideal))) ⟨m, fun _ => 0, ρ⟩ (fun r => ∀ c : Dev nD,
      r.2.mem ((c.tc : Thread nD τ).loc main_v0_0) = outV m c
      ∧ r.2.mem ((c.tc : Thread nD τ).loc main_v0_1) = codesV m c
      ∧ r.2.mem ((c.tc : Thread nD τ).loc main_v0_2) = scaleV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final3 m c), ((h c).1 4).trans (final4 m c), ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.ReferenceIdeal.Vals

end
-- ==== Proof.KerEntry.lean ====
/- What the kernel's operands are at the start of its grid: the arguments, reshaped. -/
module

public import proofs.«01_k».proof.Proof.Arrays
public import Idealize.ShloMosaic.Lib.Claim
public import Idealize.ShloMosaic.Lib.Pointwise

@[expose] public section

set_option maxRecDepth 16384

noncomputable section

namespace Cert.KernelIdeal.Slab

open Cert.KernelIdeal Cert.KernelIdeal.Gen Cert.Scale
open Idealize.ShloMosaic Idealize.ShloMosaic.TcCoe Idealize.ShloMosaic.Tactic

variable (m : (ℓ : Loc nD τ sig) → Buf (Elt Ideal) ℓ)

theorem entry4 (c : Dev nD) :
    V m c main_v4 = shapeCast S8192x8192 (m ((c : Thread nD τ).loc main_arg0)) shapeCasts_S2x4096x8192_S8192x8192 := by
  entry_read
  rfl

theorem entry5 (c : Dev nD) :
    V m c main_v5 = shapeCast S4096x8192 (m ((c : Thread nD τ).loc main_arg1)) shapeCasts_S16x256x8192_S4096x8192 := by
  entry_read
  rfl

theorem entry3 (c : Dev nD) :
    V m c main_v3 = shapeCast S8x4x8192 (broadcastInDim S8x4x64x128 ![0, 1, 2] bcast_S8x4x64_S8x4x64x128_0_1_2
      (shapeCast S8x4x64 (truncf (F := Ideal) .bf16 (m ((c : Thread nD τ).loc main_arg2)) bitsLt_bf16_f32) shapeCasts_S16x2x64_S8x4x64)) shapeCasts_S8x4x64x128_S8x4x8192 := by
  entry_read
  rfl

theorem x_apply (x : FVec Ideal S2x4096x8192 .bf16) (R k : Fin 8192) :
    (shapeCast S8192x8192 x shapeCasts_S2x4096x8192_S8192x8192 (ix2 R k) : EReal)
      = x (ix3 ⟨R.val / 4096, by have := R.isLt; omega⟩ ⟨R.val % 4096, by omega⟩ k) := by
  pointwise

theorem w_apply (w : FVec Ideal S16x256x8192 .fp8e4m3) (n : Fin 4096) (k : Fin 8192) :
    (shapeCast S4096x8192 w shapeCasts_S16x256x8192_S4096x8192 (ix2 n k) : EReal)
      = w (ix3 ⟨n.val / 256, by have := n.isLt; omega⟩ ⟨n.val % 256, by omega⟩ k) := by
  pointwise

theorem ws_apply (s : FVec Ideal S16x2x64 .f32) (j : Fin 8) (b : Fin 4) (k : Fin 8192) :
    (shapeCast S8x4x8192 (broadcastInDim S8x4x64x128 ![0, 1, 2] bcast_S8x4x64_S8x4x64x128_0_1_2
      (shapeCast S8x4x64 (truncf (F := Ideal) .bf16 s bitsLt_bf16_f32) shapeCasts_S16x2x64_S8x4x64)) shapeCasts_S8x4x64x128_S8x4x8192 (ix3 j b k) : EReal)
      = s (ix3 ⟨(4 * j.val + b.val) / 2, by have := j.isLt; have := b.isLt; omega⟩ ⟨(4 * j.val + b.val) % 2, by omega⟩ ⟨k.val / 128, by have := k.isLt; omega⟩) := by
  pointwise
  exact congrArg s (congrArg₂ (fun p q => ix3 p q _) (Fin.ext (show j.val * 2 + b.val / 2 = (4 * j.val + b.val) / 2 by omega))
    (Fin.ext (show b.val % 2 = (4 * j.val + b.val) % 2 by omega)))

theorem out_cast (A : FVec Ideal S8192x4096 .bf16) (b : Fin 2) (r : Fin 4096) (h : Fin 16) (d : Fin 256) :
    (shapeCast S2x4096x16x256 A shapeCasts_S8192x4096_S2x4096x16x256 (ix4 b r h d) : EReal)
      = A (ix2 ⟨4096 * b.val + r.val, by have := b.isLt; have := r.isLt; omega⟩ ⟨256 * h.val + d.val, by have := h.isLt; have := d.isLt; omega⟩) := by
  pointwise
  exact congrArg A (congrArg₂ ix2 (Fin.ext (show b.val * 4096 + r.val = 4096 * b.val + r.val by omega))
    (Fin.ext (show h.val * 256 + d.val = 256 * h.val + d.val by omega)))

theorem codes_cast (A : FVec Ideal S8192x8192 .fp8e4m3) (b : Fin 2) (r : Fin 4096) (k : Fin 8192) :
    (shapeCast S2x4096x8192 A shapeCasts_S8192x8192_S2x4096x8192 (ix3 b r k) : EReal)
      = A (ix2 ⟨4096 * b.val + r.val, by have := b.isLt; have := r.isLt; omega⟩ k) := by
  pointwise
  exact congrArg A (congrArg (ix2 · _) (Fin.ext (show b.val * 4096 + r.val = 4096 * b.val + r.val by omega)))

theorem scale_cast (A : FVec Ideal S8192x64 .f32) (b : Fin 2) (r : Fin 4096) (g : Fin 64) :
    (shapeCast S2x4096x64 A shapeCasts_S8192x64_S2x4096x64 (ix3 b r g) : EReal)
      = A (ix2 ⟨4096 * b.val + r.val, by have := b.isLt; have := r.isLt; omega⟩ g) := by
  pointwise
  exact congrArg A (congrArg (ix2 · _) (Fin.ext (show b.val * 4096 + r.val = 4096 * b.val + r.val by omega)))

end Cert.KernelIdeal.Slab

end
-- ==== Proof.Equation.lean ====
/- The kernel's three results are the reference's, when every group is in range. -/
module

public import proofs.«01_k».proof.Proof.RefPay
public import proofs.«01_k».proof.Proof.KerEntry

@[expose] public section

set_option maxRecDepth 16384

noncomputable section

namespace Cert.Equation

open Cert.KernelIdeal Cert.KernelIdeal.Gen Cert.KernelIdeal.Slab Cert.Scale
open Cert.ReferenceIdeal.Vals (groupMax grpOf pay2_apply pay3_apply pay4_apply pay5_apply pay6_apply pay7_apply pay1_apply)
open Cert.ReferenceIdeal.Gen (k0_pay1 k0_pay2 k0_pay3 k0_pay4 k0_pay5 k0_pay6 k0_pay7)
open Idealize.ShloMosaic Idealize.ShloMosaic.TcCoe

/-- The tokens as the kernel is given them: one row for each. -/
abbrev X2 (x : FVec Ideal S2x4096x8192 .bf16) : FVec Ideal S8192x8192 .bf16 := shapeCast S8192x8192 x shapeCasts_S2x4096x8192_S8192x8192
/-- The weights as the kernel is given them: one row for each output. -/
abbrev W2 (w : FVec Ideal S16x256x8192 .fp8e4m3) : FVec Ideal S4096x8192 .fp8e4m3 := shapeCast S4096x8192 w shapeCasts_S16x256x8192_S4096x8192
/-- The weights' scales as the kernel is given them: one for each block of rows and column. -/
abbrev S2 (s : FVec Ideal S16x2x64 .f32) : FVec Ideal S8x4x8192 .bf16 :=
  shapeCast S8x4x8192 (broadcastInDim S8x4x64x128 ![0, 1, 2] bcast_S8x4x64_S8x4x64x128_0_1_2
    (shapeCast S8x4x64 (truncf (F := Ideal) .bf16 s bitsLt_bf16_f32) shapeCasts_S16x2x64_S8x4x64)) shapeCasts_S8x4x64x128_S8x4x8192

abbrev bOf (R : Fin 8192) : Fin 2 := ⟨R.val / 4096, by have := R.isLt; omega⟩
abbrev rOf (R : Fin 8192) : Fin 4096 := ⟨R.val % 4096, by omega⟩
abbrev rowOf (b : Fin 2) (r : Fin 4096) : Fin 8192 := ⟨4096 * b.val + r.val, by have := b.isLt; have := r.isLt; omega⟩
abbrev laneOf (k : Fin 8192) : Fin 128 := ⟨k.val % 128, by omega⟩

theorem bOf_row (b : Fin 2) (r : Fin 4096) : bOf (rowOf b r) = b := Fin.ext (show (4096 * b.val + r.val) / 4096 = b.val by have := r.isLt; omega)
theorem rOf_row (b : Fin 2) (r : Fin 4096) : rOf (rowOf b r) = r := Fin.ext (show (4096 * b.val + r.val) % 4096 = r.val by have := r.isLt; omega)

theorem rowMax_eq (x : FVec Ideal S2x4096x8192 .bf16) (R : Fin 8192) (g : Fin 64) :
    rowMax (X2 x) R g = groupMax x (bOf R) (rOf R) g := by
  unfold rowMax groupMax
  exact congrArg (Finset.fold max _ · _) (funext fun l => congrArg _ (x_apply x R _))

theorem scale_at (x : FVec Ideal S2x4096x8192 .bf16) (H : ∀ b r g, InRange (groupMax x b r g)) (R : Fin 8192) (g : Fin 64) :
    scaleK (rowMax (X2 x) R g) = Ideal.exp2 (k0_pay3 (F := Ideal) x (ix3 (bOf R) (rOf R) g)) := by
  rw [rowMax_eq, (scale_eq _ (H _ _ _)).1, pay3_apply]

theorem inv_at (x : FVec Ideal S2x4096x8192 .bf16) (H : ∀ b r g, InRange (groupMax x b r g)) (R : Fin 8192) (g : Fin 64) :
    invK (rowMax (X2 x) R g) = Ideal.exp2 (Ideal.ofBits .f32 0x00000000#32 - k0_pay3 (F := Ideal) x (ix3 (bOf R) (rOf R) g)) := by
  rw [rowMax_eq, (scale_eq _ (H _ _ _)).2, pay3_apply]

theorem codes_at (x : FVec Ideal S2x4096x8192 .bf16) (H : ∀ b r g, InRange (groupMax x b r g)) (R k : Fin 8192) :
    codesArr (X2 x) (ix2 R k) = k0_pay5 (F := Ideal) x (ix4 (bOf R) (rOf R) (grpOf k) (laneOf k)) := by
  refine Eq.trans ?_ (pay5_apply x (bOf R) (rOf R) (grpOf k) (laneOf k)).symm
  have hx : (X2 x (ix2 R k) : EReal) = k0_pay2 (F := Ideal) x (ix4 (bOf R) (rOf R) (grpOf k) (laneOf k)) := by
    refine (x_apply x R k).trans (Eq.trans ?_ (pay2_apply x _ _ _ _).symm)
    exact congrArg x (congrArg (ix3 _ _) (Fin.ext (show k.val = 128 * (k.val / 128) + k.val % 128 by omega)))
  have hi := inv_at x H R (grpOf k)
  rw [← hx, ← hi]
  rfl

theorem xw_at (x : FVec Ideal S2x4096x8192 .bf16) (H : ∀ b r g, InRange (groupMax x b r g)) (R k : Fin 8192) :
    xwArr (X2 x) (ix2 R k) = k0_pay7 (F := Ideal) x (ix2 R k) := by
  refine Eq.trans ?_ (pay7_apply x R k).symm
  exact congrArg₂ (fun s t : EReal => s * t) (codes_at x H R k) (scale_at x H R (grpOf k))

theorem scales_at (x : FVec Ideal S2x4096x8192 .bf16) (H : ∀ b r g, InRange (groupMax x b r g)) (b : Fin 2) (r : Fin 4096) (g : Fin 64) :
    (shapeCast S2x4096x64 (scaleArr (X2 x)) shapeCasts_S8192x64_S2x4096x64 (ix3 b r g) : EReal) = k0_pay4 (F := Ideal) x (ix3 b r g) := by
  refine (scale_cast (scaleArr (X2 x)) b r g).trans (Eq.trans ?_ (pay4_apply x _).symm)
  refine (scale_at x H (rowOf b r) g).trans ?_
  rw [bOf_row, rOf_row]

/-- The scales. -/
theorem scales_eq (x : FVec Ideal S2x4096x8192 .bf16) (H : ∀ b r g, InRange (groupMax x b r g)) :
    shapeCast S2x4096x64 (scaleArr (X2 x)) shapeCasts_S8192x64_S2x4096x64 = k0_pay4 (F := Ideal) x := by
  funext i
  rw [← ix3_eta i]
  exact scales_at x H (i 0) (i 1) (i 2)

theorem code_at (x : FVec Ideal S2x4096x8192 .bf16) (H : ∀ b r g, InRange (groupMax x b r g)) (b : Fin 2) (r : Fin 4096) (k : Fin 8192) :
    (shapeCast S2x4096x8192 (codesArr (X2 x)) shapeCasts_S8192x8192_S2x4096x8192 (ix3 b r k) : EReal) = k0_pay6 (F := Ideal) x (ix3 b r k) := by
  refine (codes_cast (codesArr (X2 x)) b r k).trans (Eq.trans ?_ (pay6_apply x _ _ _).symm)
  refine (codes_at x H (rowOf b r) k).trans ?_
  rw [bOf_row, rOf_row]

/-- The codes. -/
theorem codes_eq (x : FVec Ideal S2x4096x8192 .bf16) (H : ∀ b r g, InRange (groupMax x b r g)) :
    shapeCast S2x4096x8192 (codesArr (X2 x)) shapeCasts_S8192x8192_S2x4096x8192 = k0_pay6 (F := Ideal) x := by
  funext i
  rw [← ix3_eta i]
  exact code_at x H (i 0) (i 1) (i 2)

/-- The products' sums. -/
theorem outs_eq (x : FVec Ideal S2x4096x8192 .bf16) (w : FVec Ideal S16x256x8192 .fp8e4m3) (ws : FVec Ideal S16x2x64 .f32)
    (H : ∀ b r g, InRange (groupMax x b r g)) :
    shapeCast S2x4096x16x256 (outArr (X2 x) (W2 w) (S2 ws)) shapeCasts_S8192x4096_S2x4096x16x256 = k0_pay1 (F := Ideal) (k0_pay7 (F := Ideal) x) w ws := by
  funext i
  rw [← ix4_eta i]
  have h2 : (i 2).val < 16 := (i 2).isLt
  have h3 : (i 3).val < 256 := (i 3).isLt
  refine (out_cast (outArr (X2 x) (W2 w) (S2 ws)) (i 0) (i 1) (i 2) (i 3)).trans (Eq.trans ?_ (pay1_apply _ w ws (i 0) (i 1) (i 2) (i 3)).symm)
  refine Finset.sum_congr rfl fun k _ => congrArg₂ (fun s t : EReal => s * t) (xw_at x H _ k) (congrArg₂ (fun s t : EReal => s * t) ?_ ?_)
  · refine (w_apply w _ k).trans (congrArg w (congrArg₂ (fun p q => ix3 p q k) (Fin.ext ?_) (Fin.ext ?_)))
    · exact (show (256 * (i 2).val + (i 3).val) / 256 = (i 2).val by omega)
    · exact (show (256 * (i 2).val + (i 3).val) % 256 = (i 3).val by omega)
  · refine (ws_apply ws _ _ k).trans (congrArg ws (congrArg₂ (fun p q => ix3 p q (grpOf k)) (Fin.ext ?_) (Fin.ext ?_)))
    · exact (show (4 * ((256 * (i 2).val + (i 3).val) / 512) + (256 * (i 2).val + (i 3).val) % 512 / 128) / 2 = (i 2).val by omega)
    · exact (show (4 * ((256 * (i 2).val + (i 3).val) / 512) + (256 * (i 2).val + (i 3).val) % 512 / 128) % 2 = (i 3).val / 128 by omega)

end Cert.Equation

end
-- ==== Proof.PreRead.lean ====
/- The precondition, read: every group of the input is all zeros, or its scale is a normal number with a normal reciprocal. -/
module

public import proofs.«01_k».proof.Pre_groups_in_range
public import proofs.«01_k».proof.Proof.RefPay
public import Idealize.ShloMosaic.PureOps.Ideal.Laws

@[expose] public section

set_option maxRecDepth 16384

noncomputable section

namespace Cert.PreRead

open Cert.Scale Cert.ReferenceIdeal.Vals
open Idealize.ShloMosaic Idealize.ShloMosaic.TcCoe
open Cert.Pre_groups_in_range

theorem facts : Cert.Pre_groups_in_range.Facts where
  bitsLt_bf16_f32 := by decide
  shapeCasts_S2x4096x8192_S2x4096x64x128 := by decide +kernel
  reducesTo_S2x4096x64x128_S2x4096x64_d3 := by decide +kernel
  h_S_ := by decide
  bcast_S_S2x4096x64 := by decide +kernel

variable [Cert.Pre_groups_in_range.Facts]

/-- The precondition's largest magnitude of a group. -/
theorem reduce_apply (v : FVec Ideal S2x4096x64x128 .f32) (b : Fin 2) (r : Fin 4096) (g : Fin 64) :
    (Host.reduce (FloatOps.maximumf (F := Ideal) (φ := .f32)) v (constant (F := Ideal) S_ .f32 0xFF800000#32) Facts.reducesTo_S2x4096x64x128_S2x4096x64_d3 Facts.h_S_ (ix3 b r g) : EReal)
      = Finset.univ.fold max (Ideal.ofBits .f32 0xFF800000#32) fun l : Fin 128 => (v (ix4 b r g l) : EReal) := by
  pointwise

theorem or_one (p q : BitVec 1) : p ||| q = 1#1 → p = 1#1 ∨ q = 1#1 := by revert p q; decide
theorem and_one (p q : BitVec 1) : p &&& q = 1#1 → p = 1#1 ∧ q = 1#1 := by revert p q; decide

theorem of_oeq (a b : EReal) (h : Ideal.cmp .oeq a b = 1#1) : a = b := by
  by_contra hn; simp [Ideal.cmp, hn] at h
theorem of_oge (a b : EReal) (h : Ideal.cmp .oge a b = 1#1) : b ≤ a := by
  by_contra hn; simp [Ideal.cmp, hn] at h
theorem of_olt (a b : EReal) (h : Ideal.cmp .olt a b = 1#1) : a < b := by
  by_contra hn; simp [Ideal.cmp, hn] at h

/-- The condition on one group, from any vector of maxima. -/
theorem inRange_of (A : FVec Ideal S2x4096x64 .f32) (i : S2x4096x64.Idx)
    (h : ori (cmpf .oeq A (broadcastInDim S2x4096x64 ![] Facts.bcast_S_S2x4096x64 (constant (F := Ideal) S_ .f32 0x00000000#32)))
      (andi (cmpf .oge (mulf A (broadcastInDim S2x4096x64 ![] Facts.bcast_S_S2x4096x64 (constant (F := Ideal) S_ .f32 0x3B124925#32)))
          (broadcastInDim S2x4096x64 ![] Facts.bcast_S_S2x4096x64 (constant (F := Ideal) S_ .f32 0x00400000#32)))
        (cmpf .olt (mulf A (broadcastInDim S2x4096x64 ![] Facts.bcast_S_S2x4096x64 (constant (F := Ideal) S_ .f32 0x3B124925#32)))
          (broadcastInDim S2x4096x64 ![] Facts.bcast_S_S2x4096x64 (constant (F := Ideal) S_ .f32 0x7E800000#32)))) i = 1#1) :
    InRange (A i) := by
  rcases or_one _ _ h with h | h
  · exact .inl (of_oeq _ _ h)
  · have h := and_one _ _ h
    exact .inr ⟨of_oge _ _ h.1, of_olt _ _ h.2⟩

theorem cast_apply (x : FVec Ideal S2x4096x8192 .bf16) (b : Fin 2) (r : Fin 4096) (g : Fin 64) (l : Fin 128) :
    (Host.absf (shapeCast S2x4096x64x128 (extf (F := Ideal) .f32 x Facts.bitsLt_bf16_f32) Facts.shapeCasts_S2x4096x8192_S2x4096x64x128) (ix4 b r g l) : EReal)
      = FloatOps.absf (F := Ideal) (φ := .f32) (x (ix3 b r ⟨128 * g.val + l.val, by have := g.isLt; have := l.isLt; omega⟩)) := by
  pointwise
  exact congrArg (fun k => FloatOps.absf (F := Ideal) (φ := .f32) (x (ix3 b r k))) (Fin.ext (show g.val * 128 + l.val = 128 * g.val + l.val by omega))

/-- Under the precondition every group is in range. -/
theorem inRange (x : FVec Ideal S2x4096x8192 .bf16) (w : FVec Ideal S16x256x8192 .fp8e4m3) (ws : FVec Ideal S16x2x64 .f32)
    (h : fn (F := Ideal) x w ws = fun _ => 1#1) (b : Fin 2) (r : Fin 4096) (g : Fin 64) : InRange (groupMax x b r g) := by
  have e := reduce_apply (Host.absf (shapeCast S2x4096x64x128 (extf (F := Ideal) .f32 x Facts.bitsLt_bf16_f32) Facts.shapeCasts_S2x4096x8192_S2x4096x64x128)) b r g
  have e' : (Finset.univ.fold max (Ideal.ofBits .f32 0xFF800000#32) fun l : Fin 128 => (Host.absf (shapeCast S2x4096x64x128 (extf (F := Ideal) .f32 x Facts.bitsLt_bf16_f32) Facts.shapeCasts_S2x4096x8192_S2x4096x64x128) (ix4 b r g l) : EReal)) = groupMax x b r g := by
    unfold groupMax
    exact congrArg (Finset.fold max _ · _) (funext fun l => cast_apply x b r g l)
  rw [← e', ← e]
  unfold fn at h
  exact inRange_of _ _ (congrFun h (ix3 b r g))

end Cert.PreRead

end
-- ==== Proof.lean ====
module

public import proofs.«01_k».proof.Defs
public import proofs.«01_k».proof.Proof.WordFrame
public import proofs.«01_k».proof.Proof.KerRun
public import proofs.«01_k».proof.Proof.RefRun
public import proofs.«01_k».proof.Proof.Equation
public import proofs.«01_k».proof.Proof.PreRead
public import Idealize.ShloMosaic.Adequacy
public import Idealize.ShloMosaic.Init

@[expose] public section

noncomputable section

namespace Cert.Proof

open Idealize.ShloMosaic Idealize.ShloMosaic.TcCoe Idealize.SL.Sem
open Cert.Equation Cert.KernelIdeal.Slab

local instance : Cert.Pre_groups_in_range.Facts := Cert.PreRead.facts

/-- The kernel's results and the reference's, from memories that agree on the arguments. -/
theorem algebraic : Cert.algebraic_KernelIdeal_ReferenceIdeal_pre_groups_in_range
    (hKernelIdeal := Cert.KernelIdeal.Gen.facts) (hReferenceIdeal := Cert.ReferenceIdeal.Gen.facts) (hPre_groups_in_range := Cert.PreRead.facts) := by
  intro m g m' g' hpre hargs
  have H := fun c => Cert.PreRead.inRange _ _ _ (hpre c)
  refine ⟨fun c => Cert.ReferenceIdeal.Vals.outV m' c, fun c => Cert.ReferenceIdeal.Vals.codesV m' c, fun c => Cert.ReferenceIdeal.Vals.scaleV m' c, ?_,
    Cert.ReferenceIdeal.Vals.run m' g'⟩
  refine (θ_run _ _ _).mono (fun _ h c => ?_) (Cert.KernelIdeal.Slab.run m g)
  obtain ⟨a0, a1, a2⟩ := hargs c
  obtain ⟨h7, h8, h9, hk⟩ := h c
  have e7 := (outs_eq _ (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (H c)).trans (Cert.ReferenceIdeal.Vals.outV_eq m' c a0 a1 a2).symm
  have e8 := (codes_eq _ (H c)).trans (Cert.ReferenceIdeal.Vals.codesV_eq m' c a0).symm
  have e9 := (scales_eq _ (H c)).trans (Cert.ReferenceIdeal.Vals.scaleV_eq m' c a0).symm
  rw [entry4, entry5, entry3] at h7
  rw [entry4] at h8 h9
  exact ⟨h7.trans e7, h8.trans e8, h9.trans e9, hk⟩

theorem claim : Cert.Claim := ⟨Cert.Kernel.Gen.facts, Cert.KernelIdeal.Gen.facts, Cert.ReferenceIdeal.Gen.facts, Cert.PreRead.facts,
  fun m ρ _ => Cert.Kernel.Word.frame m ρ,
  fun m ρ _ => Cert.KernelIdeal.Slab.frame m ρ,
  fun m ρ _ => Cert.KernelIdeal.Slab.frame m ρ,
  fun m ρ _ => Cert.ReferenceIdeal.Gen.frame m ρ,
  fun m ρ _ => Cert.ReferenceIdeal.Gen.frame m ρ,
  trivial,
  algebraic⟩

end Cert.Proof

end
